-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "inv_n" .f32 0x3C257EB5#32 ((1 / 99 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x100x4 : Shape := ⟨3, ![64, 100, 4]⟩
abbrev S_ : Shape := ⟨0, ![]⟩
abbrev S64x9900x4 : Shape := ⟨3, ![64, 9900, 4]⟩
abbrev S64x100x2 : Shape := ⟨3, ![64, 100, 2]⟩
abbrev S64x100x16 : Shape := ⟨3, ![64, 100, 16]⟩
abbrev S31x64 : Shape := ⟨2, ![31, 64]⟩
abbrev S64 : Shape := ⟨1, ![64]⟩
abbrev S56x64 : Shape := ⟨2, ![56, 64]⟩
abbrev S3x64 : Shape := ⟨2, ![3, 64]⟩
abbrev S64x64 : Shape := ⟨2, ![64, 64]⟩
abbrev S64x192 : Shape := ⟨2, ![64, 192]⟩
abbrev S192 : Shape := ⟨1, ![192]⟩
abbrev S64x4 : Shape := ⟨2, ![64, 4]⟩
abbrev S4 : Shape := ⟨1, ![4]⟩
abbrev S6x64 : Shape := ⟨2, ![6, 64]⟩

class Facts : Prop where
  bcast_S_S64x100x4 : S_.BroadcastsInDim S64x100x4 (![] : Fin 0 → Fin S64x100x4.rank)
  bcast_S_S64x100x2 : S_.BroadcastsInDim S64x100x2 (![] : Fin 0 → Fin S64x100x2.rank)
  slices_S56x64_S6x64_18_0 : S56x64.Slices ![18, 0] S6x64
  bcast_S_S6x64 : S_.BroadcastsInDim S6x64 (![] : Fin 0 → Fin S6x64.rank)

variable [Facts]

def fn {F : FTy → Type} [FloatOps F] (main_arg0 : FVec F S64x100x4 .f32) (main_arg1 : IVec S_ 32) (main_arg2 : FVec F S64x9900x4 .f32) (main_arg3 : FVec F S64x100x2 .f32) (main_arg4 : FVec F S64x100x16 .f32) (main_arg5 : FVec F S31x64 .f32) (main_arg6 : FVec F S64 .f32) (main_arg7 : FVec F S56x64 .f32) (main_arg8 : FVec F S64 .f32) (main_arg9 : FVec F S3x64 .f32) (main_arg10 : FVec F S64 .f32) (main_arg11 : FVec F S64x64 .f32) (main_arg12 : FVec F S64 .f32) (main_arg13 : FVec F S64x192 .f32) (main_arg14 : FVec F S192 .f32) (main_arg15 : FVec F S64x64 .f32) (main_arg16 : FVec F S64 .f32) (main_arg17 : FVec F S64x64 .f32) (main_arg18 : FVec F S64 .f32) (main_arg19 : FVec F S64x4 .f32) (main_arg20 : FVec F S4 .f32) : IVec S64x100x4 1 × IVec S64x100x2 1 × IVec S6x64 1 :=
  let main_v0 : FVec F S64x100x4 .f32 := Host.absf main_arg0
  let main_cst : FVec F S_ .f32 := constant S_ .f32 0x7F800000#32
  let main_v1 : FVec F S64x100x4 .f32 := broadcastInDim S64x100x4 ![] bcast_S_S64x100x4 main_cst
  let main_v2 : IVec S64x100x4 1 := cmpf .olt main_v0 main_v1
  let main_v3 : FVec F S64x100x2 .f32 := Host.absf main_arg3
  let main_cst_0 : FVec F S_ .f32 := constant S_ .f32 0x7F800000#32
  let main_v4 : FVec F S64x100x2 .f32 := broadcastInDim S64x100x2 ![] bcast_S_S64x100x2 main_cst_0
  let main_v5 : IVec S64x100x2 1 := cmpf .olt main_v3 main_v4
  let main_v6 : FVec F S6x64 .f32 := (extractStridedSlice S6x64 ![18, 0] · slices_S56x64_S6x64_18_0) main_arg7
  let main_v7 : FVec F S6x64 .f32 := Host.absf main_v6
  let main_cst_1 : FVec F S_ .f32 := constant S_ .f32 0x7F800000#32
  let main_v8 : FVec F S6x64 .f32 := broadcastInDim S6x64 ![] bcast_S_S6x64 main_cst_1
  let main_v9 : IVec S6x64 1 := cmpf .olt main_v7 main_v8
  (main_v2, main_v5, main_v9)
-- ==== Kernel.lean ====
abbrev S64x100x4 : Shape := ⟨3, ![64, 100, 4]⟩
abbrev S_ : Shape := ⟨0, ![]⟩
abbrev S64x9900x4 : Shape := ⟨3, ![64, 9900, 4]⟩
abbrev S64x100x2 : Shape := ⟨3, ![64, 100, 2]⟩
abbrev S64x100x16 : Shape := ⟨3, ![64, 100, 16]⟩
abbrev S31x64 : Shape := ⟨2, ![31, 64]⟩
abbrev S64 : Shape := ⟨1, ![64]⟩
abbrev S56x64 : Shape := ⟨2, ![56, 64]⟩
abbrev S3x64 : Shape := ⟨2, ![3, 64]⟩
abbrev S64x64 : Shape := ⟨2, ![64, 64]⟩
abbrev S64x192 : Shape := ⟨2, ![64, 192]⟩
abbrev S192 : Shape := ⟨1, ![192]⟩
abbrev S64x4 : Shape := ⟨2, ![64, 4]⟩
abbrev S4 : Shape := ⟨1, ![4]⟩
abbrev S6x64 : Shape := ⟨2, ![6, 64]⟩
abbrev S9x64 : Shape := ⟨2, ![9, 64]⟩
abbrev S16x64 : Shape := ⟨2, ![16, 64]⟩
abbrev S64x64x3 : Shape := ⟨3, ![64, 64, 3]⟩
abbrev S64x3x64 : Shape := ⟨3, ![64, 3, 64]⟩
abbrev S64x3 : Shape := ⟨2, ![64, 3]⟩
abbrev S1x192 : Shape := ⟨2, ![1, 192]⟩
abbrev S64x100x99x4 : Shape := ⟨4, ![64, 100, 99, 4]⟩
abbrev S1x64 : Shape := ⟨2, ![1, 64]⟩
abbrev S64x104x64 : Shape := ⟨3, ![64, 104, 64]⟩
abbrev S64x104x2 : Shape := ⟨3, ![64, 104, 2]⟩
abbrev S64x2x104 : Shape := ⟨3, ![64, 2, 104]⟩
abbrev S64x3x104x104 : Shape := ⟨4, ![64, 3, 104, 104]⟩
abbrev S1x100x4 : Shape := ⟨3, ![1, 100, 4]⟩
abbrev S1x100x2 : Shape := ⟨3, ![1, 100, 2]⟩
abbrev S1x100x16 : Shape := ⟨3, ![1, 100, 16]⟩
abbrev S1x100x99x4 : Shape := ⟨4, ![1, 100, 99, 4]⟩
abbrev S1x104x64 : Shape := ⟨3, ![1, 104, 64]⟩
abbrev S1x104x2 : Shape := ⟨3, ![1, 104, 2]⟩
abbrev S1x2x104 : Shape := ⟨3, ![1, 2, 104]⟩
abbrev S1x3x104x104 : Shape := ⟨4, ![1, 3, 104, 104]⟩
abbrev S100x4 : Shape := ⟨2, ![100, 4]⟩
abbrev S100x2 : Shape := ⟨2, ![100, 2]⟩
abbrev S100x16 : Shape := ⟨2, ![100, 16]⟩
abbrev S100x1 : Shape := ⟨2, ![100, 1]⟩
abbrev S100x31 : Shape := ⟨2, ![100, 31]⟩
abbrev S100x64 : Shape := ⟨2, ![100, 64]⟩
abbrev S4x64 : Shape := ⟨2, ![4, 64]⟩
abbrev S104x64 : Shape := ⟨2, ![104, 64]⟩
abbrev S4x2 : Shape := ⟨2, ![4, 2]⟩
abbrev S104x2 : Shape := ⟨2, ![104, 2]⟩
abbrev S2x104 : Shape := ⟨2, ![2, 104]⟩
abbrev S100x99x4 : Shape := ⟨3, ![100, 99, 4]⟩
abbrev S100x104 : Shape := ⟨2, ![100, 104]⟩
abbrev S100x99x1 : Shape := ⟨3, ![100, 99, 1]⟩
abbrev S100x99 : Shape := ⟨2, ![100, 99]⟩
abbrev S100x5 : Shape := ⟨2, ![100, 5]⟩
abbrev S100x103 : Shape := ⟨2, ![100, 103]⟩
abbrev S4x104 : Shape := ⟨2, ![4, 104]⟩
abbrev S104x104 : Shape := ⟨2, ![104, 104]⟩
abbrev S1x1x104x104 : Shape := ⟨4, ![1, 1, 104, 104]⟩
abbrev S1x8x64 : Shape := ⟨3, ![1, 8, 64]⟩
abbrev S1x8x2 : Shape := ⟨3, ![1, 8, 2]⟩
abbrev S1x3x8x104 : Shape := ⟨4, ![1, 3, 8, 104]⟩
abbrev S8x64 : Shape := ⟨2, ![8, 64]⟩
abbrev S8x1x64 : Shape := ⟨3, ![8, 1, 64]⟩
abbrev S8x104x64 : Shape := ⟨3, ![8, 104, 64]⟩
abbrev S1x8x1 : Shape := ⟨3, ![1, 8, 1]⟩
abbrev S8x1 : Shape := ⟨2, ![8, 1]⟩
abbrev S1x1x104 : Shape := ⟨3, ![1, 1, 104]⟩
abbrev S1x104 : Shape := ⟨2, ![1, 104]⟩
abbrev S8x104 : Shape := ⟨2, ![8, 104]⟩
abbrev S8x104x1 : Shape := ⟨3, ![8, 104, 1]⟩
abbrev S1x1x64 : Shape := ⟨3, ![1, 1, 64]⟩
abbrev S832x64 : Shape := ⟨2, ![832, 64]⟩
abbrev S832x192 : Shape := ⟨2, ![832, 192]⟩
abbrev S8x104x192 : Shape := ⟨3, ![8, 104, 192]⟩
abbrev S1x1x8x104 : Shape := ⟨4, ![1, 1, 8, 104]⟩
abbrev S1x4 : Shape := ⟨2, ![1, 4]⟩
abbrev S1x100x64 : Shape := ⟨3, ![1, 100, 64]⟩

abbrev nBuf : Space → Nat
  | .hbm => 52
  | .vmem => 57
  | .smem => 0
  | _ => 0

abbrev bufTy : (tb : Table) → Fin (tcTables nBuf tb) → BufTy
  | .hbm, ⟨0, _⟩ => ⟨S64x100x4, .f32⟩
  | .hbm, ⟨1, _⟩ => ⟨S_, .i32⟩
  | .hbm, ⟨2, _⟩ => ⟨S64x9900x4, .f32⟩
  | .hbm, ⟨3, _⟩ => ⟨S64x100x2, .f32⟩
  | .hbm, ⟨4, _⟩ => ⟨S64x100x16, .f32⟩
  | .hbm, ⟨5, _⟩ => ⟨S31x64, .f32⟩
  | .hbm, ⟨6, _⟩ => ⟨S64, .f32⟩
  | .hbm, ⟨7, _⟩ => ⟨S56x64, .f32⟩
  | .hbm, ⟨8, _⟩ => ⟨S64, .f32⟩
  | .hbm, ⟨9, _⟩ => ⟨S3x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x192, .f32⟩
  | .hbm, ⟨14, _⟩ => ⟨S192, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x4, .f32⟩
  | .hbm, ⟨20, _⟩ => ⟨S4, .f32⟩
  | .hbm, ⟨21, _⟩ => ⟨S6x64, .f32⟩
  | .hbm, ⟨22, _⟩ => ⟨S9x64, .f32⟩
  | .hbm, ⟨23, _⟩ => ⟨S16x64, .f32⟩
  | .hbm, ⟨24, _⟩ => ⟨S31x64, .f32⟩
  | .hbm, ⟨25, _⟩ => ⟨S6x64, .f32⟩
  | .hbm, ⟨26, _⟩ => ⟨S6x64, .f32⟩
  | .hbm, ⟨27, _⟩ => ⟨S9x64, .f32⟩
  | .hbm, ⟨28, _⟩ => ⟨S16x64, .f32⟩
  | .hbm, ⟨29, _⟩ => ⟨S31x64, .f32⟩
  | .hbm, ⟨30, _⟩ => ⟨S64x64x3, .f32⟩
  | .hbm, ⟨31, _⟩ => ⟨S64x3x64, .f32⟩
  | .hbm, ⟨32, _⟩ => ⟨S64x192, .f32⟩
  | .hbm, ⟨33, _⟩ => ⟨S64x3, .f32⟩
  | .hbm, ⟨34, _⟩ => ⟨S3x64, .f32⟩
  | .hbm, ⟨35, _⟩ => ⟨S1x192, .f32⟩
  | .hbm, ⟨36, _⟩ => ⟨S64x100x99x4, .f32⟩
  | .hbm, ⟨37, _⟩ => ⟨S1x64, .f32⟩
  | .hbm, ⟨38, _⟩ => ⟨S1x64, .f32⟩
  | .hbm, ⟨39, _⟩ => ⟨S64x104x64, .f32⟩
  | .hbm, ⟨40, _⟩ => ⟨S64x104x64, .f32⟩
  | .hbm, ⟨41, _⟩ => ⟨S64x104x64, .f32⟩
  | .hbm, ⟨42, _⟩ => ⟨S64x104x2, .f32⟩
  | .hbm, ⟨43, _⟩ => ⟨S64x2x104, .f32⟩
  | .hbm, ⟨44, _⟩ => ⟨S64x3x104x104, .f32⟩
  | .hbm, ⟨45, _⟩ => ⟨S1x64, .f32⟩
  | .hbm, ⟨46, _⟩ => ⟨S1x64, .f32⟩
  | .hbm, ⟨47, _⟩ => ⟨S64x104x64, .f32⟩
  | .hbm, ⟨48, _⟩ => ⟨S1x64, .f32⟩
  | .hbm, ⟨49, _⟩ => ⟨S1x64, .f32⟩
  | .hbm, ⟨50, _⟩ => ⟨S1x4, .f32⟩
  | .hbm, ⟨51, _⟩ => ⟨S64x100x4, .f32⟩
  | .local _ .vmem, ⟨0, _⟩ => ⟨S1x100x4, .f32⟩
  | .local _ .vmem, ⟨1, _⟩ => ⟨S1x100x4, .f32⟩
  | .local _ .vmem, ⟨2, _⟩ => ⟨S1x100x2, .f32⟩
  | .local _ .vmem, ⟨3, _⟩ => ⟨S1x100x2, .f32⟩
  | .local _ .vmem, ⟨4, _⟩ => ⟨S1x100x16, .f32⟩
  | .local _ .vmem, ⟨5, _⟩ => ⟨S1x100x16, .f32⟩
  | .local _ .vmem, ⟨6, _⟩ => ⟨S1x100x99x4, .f32⟩
  | .local _ .vmem, ⟨7, _⟩ => ⟨S1x100x99x4, .f32⟩
  | .local _ .vmem, ⟨8, _⟩ => ⟨S31x64, .f32⟩
  | .local _ .vmem, ⟨9, _⟩ => ⟨S31x64, .f32⟩
  | .local _ .vmem, ⟨10, _⟩ => ⟨S31x64, .f32⟩
  | .local _ .vmem, ⟨11, _⟩ => ⟨S1x64, .f32⟩
  | .local _ .vmem, ⟨12, _⟩ => ⟨S1x64, .f32⟩
  | .local _ .vmem, ⟨13, _⟩ => ⟨S1x104x64, .f32⟩
  | .local _ .vmem, ⟨14, _⟩ => ⟨S1x104x64, .f32⟩
  | .local _ .vmem, ⟨15, _⟩ => ⟨S1x104x64, .f32⟩
  | .local _ .vmem, ⟨16, _⟩ => ⟨S1x104x64, .f32⟩
  | .local _ .vmem, ⟨17, _⟩ => ⟨S1x104x64, .f32⟩
  | .local _ .vmem, ⟨18, _⟩ => ⟨S1x104x64, .f32⟩
  | .local _ .vmem, ⟨19, _⟩ => ⟨S1x104x2, .f32⟩
  | .local _ .vmem, ⟨20, _⟩ => ⟨S1x104x2, .f32⟩
  | .local _ .vmem, ⟨21, _⟩ => ⟨S1x2x104, .f32⟩
  | .local _ .vmem, ⟨22, _⟩ => ⟨S1x2x104, .f32⟩
  | .local _ .vmem, ⟨23, _⟩ => ⟨S1x3x104x104, .f32⟩
  | .local _ .vmem, ⟨24, _⟩ => ⟨S1x3x104x104, .f32⟩
  | .local _ .vmem, ⟨25, _⟩ => ⟨S1x8x64, .f32⟩
  | .local _ .vmem, ⟨26, _⟩ => ⟨S1x8x64, .f32⟩
  | .local _ .vmem, ⟨27, _⟩ => ⟨S1x104x64, .f32⟩
  | .local _ .vmem, ⟨28, _⟩ => ⟨S1x104x64, .f32⟩
  | .local _ .vmem, ⟨29, _⟩ => ⟨S1x8x2, .f32⟩
  | .local _ .vmem, ⟨30, _⟩ => ⟨S1x8x2, .f32⟩
  | .local _ .vmem, ⟨31, _⟩ => ⟨S1x2x104, .f32⟩
  | .local _ .vmem, ⟨32, _⟩ => ⟨S1x2x104, .f32⟩
  | .local _ .vmem, ⟨33, _⟩ => ⟨S1x3x8x104, .f32⟩
  | .local _ .vmem, ⟨34, _⟩ => ⟨S1x3x8x104, .f32⟩
  | .local _ .vmem, ⟨35, _⟩ => ⟨S3x64, .f32⟩
  | .local _ .vmem, ⟨36, _⟩ => ⟨S1x64, .f32⟩
  | .local _ .vmem, ⟨37, _⟩ => ⟨S64x64, .f32⟩
  | .local _ .vmem, ⟨38, _⟩ => ⟨S1x64, .f32⟩
  | .local _ .vmem, ⟨39, _⟩ => ⟨S64x192, .f32⟩
  | .local _ .vmem, ⟨40, _⟩ => ⟨S1x192, .f32⟩
  | .local _ .vmem, ⟨41, _⟩ => ⟨S1x104x64, .f32⟩
  | .local _ .vmem, ⟨42, _⟩ => ⟨S1x104x64, .f32⟩
  | .local _ .vmem, ⟨43, _⟩ => ⟨S1x104x64, .f32⟩
  | .local _ .vmem, ⟨44, _⟩ => ⟨S1x104x64, .f32⟩
  | .local _ .vmem, ⟨45, _⟩ => ⟨S1x104x64, .f32⟩
  | .local _ .vmem, ⟨46, _⟩ => ⟨S1x104x64, .f32⟩
  | .local _ .vmem, ⟨47, _⟩ => ⟨S1x100x4, .f32⟩
  | .local _ .vmem, ⟨48, _⟩ => ⟨S1x100x4, .f32⟩
  | .local _ .vmem, ⟨49, _⟩ => ⟨S64x64, .f32⟩
  | .local _ .vmem, ⟨50, _⟩ => ⟨S1x64, .f32⟩
  | .local _ .vmem, ⟨51, _⟩ => ⟨S64x64, .f32⟩
  | .local _ .vmem, ⟨52, _⟩ => ⟨S1x64, .f32⟩
  | .local _ .vmem, ⟨53, _⟩ => ⟨S64x4, .f32⟩
  | .local _ .vmem, ⟨54, _⟩ => ⟨S1x4, .f32⟩
  | .local _ .vmem, ⟨55, _⟩ => ⟨S1x100x4, .f32⟩
  | .local _ .vmem, ⟨56, _⟩ => ⟨S1x100x4, .f32⟩
  | _, _ => ⟨S64x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev main_v18_3 : Ref sig .tc := ⟨.hbm, 42, rfl⟩
abbrev main_v18_4 : Ref sig .tc := ⟨.hbm, 43, rfl⟩
abbrev main_v18_5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg11_1 : Ref sig .tc := ⟨.vmem, 42, rfl⟩
abbrev cc2_stg0_0 : Ref sig .tc := ⟨.vmem, 43, rfl⟩
abbrev cc2_stg0_1 : Ref sig .tc := ⟨.vmem, 44, rfl⟩
abbrev cc2_stg1_0 : Ref sig .tc := ⟨.vmem, 45, rfl⟩
abbrev cc2_stg1_1 : Ref sig .tc := ⟨.vmem, 46, rfl⟩
abbrev cc2_stg2_0 : Ref sig .tc := ⟨.vmem, 47, rfl⟩
abbrev cc2_stg2_1 : Ref sig .tc := ⟨.vmem, 48, rfl⟩
abbrev cc2_stg3_0 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg6_0 : Ref sig .tc := ⟨.vmem, 52, rfl⟩
abbrev cc2_stg7_0 : Ref sig .tc := ⟨.vmem, 53, rfl⟩
abbrev cc2_stg8_0 : Ref sig .tc := ⟨.vmem, 54, rfl⟩
abbrev cc2_stg9_0 : Ref sig .tc := ⟨.vmem, 55, rfl⟩
abbrev cc2_stg9_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc1_sem5_0 : DmaSem sig := 35
abbrev cc1_sem6_0 : DmaSem sig := 36
abbrev cc1_sem7_0 : DmaSem sig := 37
abbrev cc1_sem8_0 : DmaSem sig := 38
abbrev cc1_sem9_0 : DmaSem sig := 39
abbrev cc1_sem10_0 : DmaSem sig := 40
abbrev cc1_sem11_0 : DmaSem sig := 41
abbrev cc1_sem11_1 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem4_0 : DmaSem sig := 50
abbrev cc2_sem5_0 : DmaSem sig := 51
abbrev cc2_sem6_0 : DmaSem sig := 52
abbrev cc2_sem7_0 : DmaSem sig := 53
abbrev cc2_sem8_0 : DmaSem sig := 54
abbrev cc2_sem9_0 : DmaSem sig := 55
abbrev cc2_sem9_1 : DmaSem sig := 56

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x100x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x100x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x100x99x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x104x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x104x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x104x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x104x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x104 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x104x104 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨2, ![64, 13], ![false, false]⟩

def k1_cond1 (i : grid1.Coords) : BitVec 1 :=
  let arg1 : BitVec 32 := BitVec.ofNat 32 (i 1).val
  let c0_i32 : BitVec 32 := 0#32
  let v121 : BitVec 1 := Scalar.cmpi .eq arg1 c0_i32
  let v122 : BitVec 32 := Scalar.extui v121
  let c0_i32_49 : BitVec 32 := 0#32
  let v123 : BitVec 1 := Scalar.cmpi .ne v122 c0_i32_49
  v123

def k1_cond2 (i : grid1.Coords) : BitVec 1 :=
  let arg1 : BitVec 32 := BitVec.ofNat 32 (i 1).val
  let c0_i32_50 : BitVec 32 := 0#32
  let v124 : BitVec 1 := Scalar.cmpi .sgt arg1 c0_i32_50
  let v125 : BitVec 32 := Scalar.extui v124
  let c0_i32_51 : BitVec 32 := 0#32
  let v126 : BitVec 1 := Scalar.cmpi .ne v125 c0_i32_51
  v126

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x104x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x104 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x3x8x104 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S3x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x192 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x192 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x104x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x104x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x104x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x100x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x4 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x4 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x100x4 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelIdeal.lean ====
variable {F : FTy → Type} [FloatOps F] [Named F]
def κ : String → Option EReal := fun
  | "inv_n" => some ((1 / 99 : ℝ) : EReal)
  | _ => none
-- ==== ReferenceIdeal.lean ====
abbrev S64x100x4 : Shape := ⟨3, ![64, 100, 4]⟩
abbrev S_ : Shape := ⟨0, ![]⟩
abbrev S64x9900x4 : Shape := ⟨3, ![64, 9900, 4]⟩
abbrev S64x100x2 : Shape := ⟨3, ![64, 100, 2]⟩
abbrev S64x100x16 : Shape := ⟨3, ![64, 100, 16]⟩
abbrev S31x64 : Shape := ⟨2, ![31, 64]⟩
abbrev S64 : Shape := ⟨1, ![64]⟩
abbrev S56x64 : Shape := ⟨2, ![56, 64]⟩
abbrev S3x64 : Shape := ⟨2, ![3, 64]⟩
abbrev S64x64 : Shape := ⟨2, ![64, 64]⟩
abbrev S64x192 : Shape := ⟨2, ![64, 192]⟩
abbrev S192 : Shape := ⟨1, ![192]⟩
abbrev S64x4 : Shape := ⟨2, ![64, 4]⟩
abbrev S4 : Shape := ⟨1, ![4]⟩
abbrev S100x99 : Shape := ⟨2, ![100, 99]⟩
abbrev S9900 : Shape := ⟨1, ![9900]⟩
abbrev S64x100x6 : Shape := ⟨3, ![64, 100, 6]⟩
abbrev S64x100x1 : Shape := ⟨3, ![64, 100, 1]⟩
abbrev S64x100 : Shape := ⟨2, ![64, 100]⟩
abbrev S64x100x1x2 : Shape := ⟨4, ![64, 100, 1, 2]⟩
abbrev S64x100x2x2 : Shape := ⟨4, ![64, 100, 2, 2]⟩
abbrev S64x100x3x2 : Shape := ⟨4, ![64, 100, 3, 2]⟩
abbrev S64x100x9 : Shape := ⟨3, ![64, 100, 9]⟩
abbrev S64x100x15 : Shape := ⟨3, ![64, 100, 15]⟩
abbrev S9900x1 : Shape := ⟨2, ![9900, 1]⟩
abbrev S64x9900x6 : Shape := ⟨3, ![64, 9900, 6]⟩
abbrev S64x9900x9 : Shape := ⟨3, ![64, 9900, 9]⟩
abbrev S64x9900x24 : Shape := ⟨3, ![64, 9900, 24]⟩
abbrev S64x9900x2 : Shape := ⟨3, ![64, 9900, 2]⟩
abbrev S64x9900 : Shape := ⟨2, ![64, 9900]⟩
abbrev S64x9900x1 : Shape := ⟨3, ![64, 9900, 1]⟩
abbrev S64x9900x3 : Shape := ⟨3, ![64, 9900, 3]⟩
abbrev S64x9900x16 : Shape := ⟨3, ![64, 9900, 16]⟩
abbrev S64x9900x56 : Shape := ⟨3, ![64, 9900, 56]⟩
abbrev S64x9900x64 : Shape := ⟨3, ![64, 9900, 64]⟩
abbrev S1x1x64 : Shape := ⟨3, ![1, 1, 64]⟩
abbrev S64x9900x192 : Shape := ⟨3, ![64, 9900, 192]⟩
abbrev S1x1x192 : Shape := ⟨3, ![1, 1, 192]⟩
abbrev S64x9900x64x3 : Shape := ⟨4, ![64, 9900, 64, 3]⟩
abbrev S64x9900x1x3 : Shape := ⟨4, ![64, 9900, 1, 3]⟩
abbrev S64x100x64 : Shape := ⟨3, ![64, 100, 64]⟩
abbrev S64x100x31 : Shape := ⟨3, ![64, 100, 31]⟩
abbrev S1x1x4 : Shape := ⟨3, ![1, 1, 4]⟩

abbrev nBuf : Space → Nat
  | .hbm => 251
  | .vmem => 0
  | .smem => 0
  | _ => 0

abbrev hbmTy0_0 (i : Nat) : BufTy := match i % 128 with
  | 0 => ⟨S64x100x4, .f32⟩
  | 1 => ⟨S_, .i32⟩
  | 2 => ⟨S64x9900x4, .f32⟩
  | 3 => ⟨S64x100x2, .f32⟩
  | 4 => ⟨S64x100x16, .f32⟩
  | 5 => ⟨S31x64, .f32⟩
  | 6 => ⟨S64, .f32⟩
  | 7 => ⟨S56x64, .f32⟩
  | 8 => ⟨S64, .f32⟩
  | 9 => ⟨S3x64, .f32⟩
  | 10 => ⟨S64, .f32⟩
  | 11 => ⟨S64x64, .f32⟩
  | 12 => ⟨S64, .f32⟩
  | 13 => ⟨S64x192, .f32⟩
  | 14 => ⟨S192, .f32⟩
  | 15 => ⟨S64x64, .f32⟩
  | 16 => ⟨S64, .f32⟩
  | 17 => ⟨S64x64, .f32⟩
  | 18 => ⟨S64, .f32⟩
  | 19 => ⟨S64x4, .f32⟩
  | 20 => ⟨S4, .f32⟩
  | 21 => ⟨S100x99, .i32⟩
  | 22 => ⟨S100x99, .i32⟩
  | 23 => ⟨S100x99, .i1⟩
  | 24 => ⟨S_, .i32⟩
  | 25 => ⟨S100x99, .i32⟩
  | 26 => ⟨S100x99, .i32⟩
  | 27 => ⟨S100x99, .i32⟩
  | 28 => ⟨S9900, .i32⟩
  | 29 => ⟨S9900, .i32⟩
  | 30 => ⟨S64x100x6, .f32⟩
  | 31 => ⟨S64x100x2, .f32⟩
  | 32 => ⟨S64x100x2, .f32⟩
  | 33 => ⟨S64x100x1, .f32⟩
  | 34 => ⟨S64x100, .f32⟩
  | 35 => ⟨S64x100x1, .f32⟩
  | 36 => ⟨S64x100, .f32⟩
  | 37 => ⟨S64x100, .f32⟩
  | 38 => ⟨S64x100, .f32⟩
  | 39 => ⟨S64x100, .f32⟩
  | 40 => ⟨S64x100, .f32⟩
  | 41 => ⟨S64x100x1, .f32⟩
  | 42 => ⟨S64x100x1, .f32⟩
  | 43 => ⟨S64x100x2, .f32⟩
  | 44 => ⟨S64x100x1, .f32⟩
  | 45 => ⟨S64x100x1, .f32⟩
  | 46 => ⟨S64x100x2, .f32⟩
  | 47 => ⟨S64x100x1x2, .f32⟩
  | 48 => ⟨S64x100x1x2, .f32⟩
  | 49 => ⟨S64x100x2x2, .f32⟩
  | 50 => ⟨S64x100x2x2, .f32⟩
  | 51 => ⟨S64x100x3x2, .f32⟩
  | 52 => ⟨S64x100x3x2, .f32⟩
  | 53 => ⟨S64x100x6, .f32⟩
  | 54 => ⟨S64x100x2, .f32⟩
  | 55 => ⟨S64x100x2, .f32⟩
  | 56 => ⟨S_, .f32⟩
  | 57 => ⟨S64x100, .f32⟩
  | 58 => ⟨S64x100x1, .f32⟩
  | 59 => ⟨S_, .f32⟩
  | 60 => ⟨S64x100x1, .f32⟩
  | 61 => ⟨S64x100x1, .f32⟩
  | 62 => ⟨S64x100x1, .f32⟩
  | 63 => ⟨S64x100x2, .f32⟩
  | 64 => ⟨S_, .f32⟩
  | 65 => ⟨S64x100, .f32⟩
  | 66 => ⟨S64x100x1, .f32⟩
  | 67 => ⟨S_, .f32⟩
  | 68 => ⟨S64x100x1, .f32⟩
  | 69 => ⟨S64x100x1, .f32⟩
  | 70 => ⟨S64x100x1, .f32⟩
  | 71 => ⟨S64x100x1, .f32⟩
  | 72 => ⟨S64x100x1, .f32⟩
  | 73 => ⟨S64x100x2, .f32⟩
  | 74 => ⟨S64x100x2, .f32⟩
  | 75 => ⟨S64x100x2, .f32⟩
  | 76 => ⟨S_, .f32⟩
  | 77 => ⟨S64x100, .f32⟩
  | 78 => ⟨S64x100x1, .f32⟩
  | 79 => ⟨S_, .f32⟩
  | 80 => ⟨S64x100x1, .f32⟩
  | 81 => ⟨S64x100x1, .f32⟩
  | 82 => ⟨S64x100x1, .f32⟩
  | 83 => ⟨S64x100x9, .f32⟩
  | 84 => ⟨S64x100x15, .f32⟩
  | 85 => ⟨S_, .i32⟩
  | 86 => ⟨S9900, .i32⟩
  | 87 => ⟨S9900, .i1⟩
  | 88 => ⟨S_, .i32⟩
  | 89 => ⟨S9900, .i32⟩
  | 90 => ⟨S9900, .i32⟩
  | 91 => ⟨S9900, .i32⟩
  | 92 => ⟨S9900x1, .i32⟩
  | 93 => ⟨S64x9900x6, .f32⟩
  | 94 => ⟨S_, .i32⟩
  | 95 => ⟨S9900, .i32⟩
  | 96 => ⟨S9900, .i1⟩
  | 97 => ⟨S_, .i32⟩
  | 98 => ⟨S9900, .i32⟩
  | 99 => ⟨S9900, .i32⟩
  | 100 => ⟨S9900, .i32⟩
  | 101 => ⟨S9900x1, .i32⟩
  | 102 => ⟨S64x9900x6, .f32⟩
  | 103 => ⟨S64x9900x6, .f32⟩
  | 104 => ⟨S_, .i32⟩
  | 105 => ⟨S9900, .i32⟩
  | 106 => ⟨S9900, .i1⟩
  | 107 => ⟨S_, .i32⟩
  | 108 => ⟨S9900, .i32⟩
  | 109 => ⟨S9900, .i32⟩
  | 110 => ⟨S9900, .i32⟩
  | 111 => ⟨S9900x1, .i32⟩
  | 112 => ⟨S64x9900x9, .f32⟩
  | 113 => ⟨S_, .i32⟩
  | 114 => ⟨S9900, .i32⟩
  | 115 => ⟨S9900, .i1⟩
  | 116 => ⟨S_, .i32⟩
  | 117 => ⟨S9900, .i32⟩
  | 118 => ⟨S9900, .i32⟩
  | 119 => ⟨S9900, .i32⟩
  | 120 => ⟨S9900x1, .i32⟩
  | 121 => ⟨S64x9900x9, .f32⟩
  | 122 => ⟨S64x9900x24, .f32⟩
  | 123 => ⟨S_, .i32⟩
  | 124 => ⟨S9900, .i32⟩
  | 125 => ⟨S9900, .i1⟩
  | 126 => ⟨S_, .i32⟩
  | 127 => ⟨S9900, .i32⟩
  | _ => ⟨S64x100x4, .f32⟩

abbrev hbmTy0_1 (i : Nat) : BufTy := match i % 128 with
  | 0 => ⟨S9900, .i32⟩
  | 1 => ⟨S9900, .i32⟩
  | 2 => ⟨S9900x1, .i32⟩
  | 3 => ⟨S64x9900x2, .f32⟩
  | 4 => ⟨S_, .i32⟩
  | 5 => ⟨S9900, .i32⟩
  | 6 => ⟨S9900, .i1⟩
  | 7 => ⟨S_, .i32⟩
  | 8 => ⟨S9900, .i32⟩
  | 9 => ⟨S9900, .i32⟩
  | 10 => ⟨S9900, .i32⟩
  | 11 => ⟨S9900x1, .i32⟩
  | 12 => ⟨S64x9900x2, .f32⟩
  | 13 => ⟨S64x9900x2, .f32⟩
  | 14 => ⟨S64x9900x2, .f32⟩
  | 15 => ⟨S_, .f32⟩
  | 16 => ⟨S64x9900, .f32⟩
  | 17 => ⟨S64x9900x1, .f32⟩
  | 18 => ⟨S_, .f32⟩
  | 19 => ⟨S64x9900x1, .f32⟩
  | 20 => ⟨S64x9900x1, .f32⟩
  | 21 => ⟨S64x9900x1, .f32⟩
  | 22 => ⟨S64x9900x1, .f32⟩
  | 23 => ⟨S64x9900, .f32⟩
  | 24 => ⟨S64x9900x1, .f32⟩
  | 25 => ⟨S64x9900, .f32⟩
  | 26 => ⟨S64x9900, .f32⟩
  | 27 => ⟨S64x9900, .f32⟩
  | 28 => ⟨S64x9900x1, .f32⟩
  | 29 => ⟨S64x9900, .f32⟩
  | 30 => ⟨S64x9900x1, .f32⟩
  | 31 => ⟨S64x9900x3, .f32⟩
  | 32 => ⟨S_, .i32⟩
  | 33 => ⟨S9900, .i32⟩
  | 34 => ⟨S9900, .i1⟩
  | 35 => ⟨S_, .i32⟩
  | 36 => ⟨S9900, .i32⟩
  | 37 => ⟨S9900, .i32⟩
  | 38 => ⟨S9900, .i32⟩
  | 39 => ⟨S9900x1, .i32⟩
  | 40 => ⟨S64x9900x16, .f32⟩
  | 41 => ⟨S_, .i32⟩
  | 42 => ⟨S9900, .i32⟩
  | 43 => ⟨S9900, .i1⟩
  | 44 => ⟨S_, .i32⟩
  | 45 => ⟨S9900, .i32⟩
  | 46 => ⟨S9900, .i32⟩
  | 47 => ⟨S9900, .i32⟩
  | 48 => ⟨S9900x1, .i32⟩
  | 49 => ⟨S64x9900x16, .f32⟩
  | 50 => ⟨S64x9900x56, .f32⟩
  | 51 => ⟨S64x9900x64, .f32⟩
  | 52 => ⟨S1x1x64, .f32⟩
  | 53 => ⟨S64x9900x64, .f32⟩
  | 54 => ⟨S64x9900x64, .f32⟩
  | 55 => ⟨S_, .f32⟩
  | 56 => ⟨S64x9900x64, .f32⟩
  | 57 => ⟨S64x9900x64, .f32⟩
  | 58 => ⟨S64x9900x64, .f32⟩
  | 59 => ⟨S1x1x64, .f32⟩
  | 60 => ⟨S64x9900x64, .f32⟩
  | 61 => ⟨S64x9900x64, .f32⟩
  | 62 => ⟨S_, .f32⟩
  | 63 => ⟨S64x9900x64, .f32⟩
  | 64 => ⟨S64x9900x64, .f32⟩
  | 65 => ⟨S64x9900x64, .f32⟩
  | 66 => ⟨S1x1x64, .f32⟩
  | 67 => ⟨S64x9900x64, .f32⟩
  | 68 => ⟨S64x9900x64, .f32⟩
  | 69 => ⟨S64x9900x64, .f32⟩
  | 70 => ⟨S64x9900x192, .f32⟩
  | 71 => ⟨S1x1x192, .f32⟩
  | 72 => ⟨S64x9900x192, .f32⟩
  | 73 => ⟨S64x9900x192, .f32⟩
  | 74 => ⟨S64x9900x64x3, .f32⟩
  | 75 => ⟨S64x9900x3, .f32⟩
  | 76 => ⟨S64x9900x1x3, .f32⟩
  | 77 => ⟨S64x9900x64x3, .f32⟩
  | 78 => ⟨S64x9900x64x3, .f32⟩
  | 79 => ⟨S_, .f32⟩
  | 80 => ⟨S64x9900x64, .f32⟩
  | 81 => ⟨S_, .f32⟩
  | 82 => ⟨S64x100x64, .f32⟩
  | 83 => ⟨S_, .i32⟩
  | 84 => ⟨S9900, .i32⟩
  | 85 => ⟨S9900, .i1⟩
  | 86 => ⟨S_, .i32⟩
  | 87 => ⟨S9900, .i32⟩
  | 88 => ⟨S9900, .i32⟩
  | 89 => ⟨S9900, .i32⟩
  | 90 => ⟨S9900x1, .i32⟩
  | 91 => ⟨S64x100x64, .f32⟩
  | 92 => ⟨S_, .f32⟩
  | 93 => ⟨S64x100x64, .f32⟩
  | 94 => ⟨S64x100x64, .f32⟩
  | 95 => ⟨S64x100x31, .f32⟩
  | 96 => ⟨S64x100x64, .f32⟩
  | 97 => ⟨S1x1x64, .f32⟩
  | 98 => ⟨S64x100x64, .f32⟩
  | 99 => ⟨S64x100x64, .f32⟩
  | 100 => ⟨S64x100x64, .f32⟩
  | 101 => ⟨S64x100x64, .f32⟩
  | 102 => ⟨S1x1x64, .f32⟩
  | 103 => ⟨S64x100x64, .f32⟩
  | 104 => ⟨S64x100x64, .f32⟩
  | 105 => ⟨S_, .f32⟩
  | 106 => ⟨S64x100x64, .f32⟩
  | 107 => ⟨S64x100x64, .f32⟩
  | 108 => ⟨S64x100x64, .f32⟩
  | 109 => ⟨S1x1x64, .f32⟩
  | 110 => ⟨S64x100x64, .f32⟩
  | 111 => ⟨S64x100x64, .f32⟩
  | 112 => ⟨S_, .f32⟩
  | 113 => ⟨S64x100x64, .f32⟩
  | 114 => ⟨S64x100x64, .f32⟩
  | 115 => ⟨S64x100x4, .f32⟩
  | 116 => ⟨S1x1x4, .f32⟩
  | 117 => ⟨S64x100x4, .f32⟩
  | 118 => ⟨S64x100x4, .f32⟩
  | 119 => ⟨S64x100x2x2, .f32⟩
  | 120 => ⟨S64x100x2x2, .f32⟩
  | 121 => ⟨S64x100x4, .f32⟩
  | 122 => ⟨S64x100x4, .f32⟩
  | _ => ⟨S64x100x4, .f32⟩

abbrev hbmTy (i : Nat) : BufTy := match i / 128 with
  | 0 => hbmTy0_0 i
  | 1 => hbmTy0_1 i
  | _ => ⟨S64x100x4, .f32⟩

abbrev bufTy : (tb : Table) → Fin (tcTables nBuf tb) → BufTy
  | .hbm, ⟨i, _⟩ => hbmTy i
  | _, _ => ⟨S64x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_cst_0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_3 : Ref sig .tc := ⟨.hbm, 76, rfl⟩
abbrev main_v50 : Ref sig .tc := ⟨.hbm, 77, rfl⟩
abbrev main_v51 : Ref sig .tc := ⟨.hbm, 78, rfl⟩
abbrev main_cst_4 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_5 : Ref sig .tc := ⟨.hbm, 85, rfl⟩
abbrev main_v57 : Ref sig .tc := ⟨.hbm, 86, rfl⟩
abbrev main_v58 : Ref sig .tc := ⟨.hbm, 87, rfl⟩
abbrev main_c_6 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_7 : Ref sig .tc := ⟨.hbm, 94, rfl⟩
abbrev main_v64 : Ref sig .tc := ⟨.hbm, 95, rfl⟩
abbrev main_v65 : Ref sig .tc := ⟨.hbm, 96, rfl⟩
abbrev main_c_8 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_9 : Ref sig .tc := ⟨.hbm, 104, rfl⟩
abbrev main_v72 : Ref sig .tc := ⟨.hbm, 105, rfl⟩
abbrev main_v73 : Ref sig .tc := ⟨.hbm, 106, rfl⟩
abbrev main_c_10 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_11 : Ref sig .tc := ⟨.hbm, 113, rfl⟩
abbrev main_v79 : Ref sig .tc := ⟨.hbm, 114, rfl⟩
abbrev main_v80 : Ref sig .tc := ⟨.hbm, 115, rfl⟩
abbrev main_c_12 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_13 : Ref sig .tc := ⟨.hbm, 123, rfl⟩
abbrev main_v87 : Ref sig .tc := ⟨.hbm, 124, rfl⟩
abbrev main_v88 : Ref sig .tc := ⟨.hbm, 125, rfl⟩
abbrev main_c_14 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_15 : Ref sig .tc := ⟨.hbm, 132, rfl⟩
abbrev main_v94 : Ref sig .tc := ⟨.hbm, 133, rfl⟩
abbrev main_v95 : Ref sig .tc := ⟨.hbm, 134, rfl⟩
abbrev main_c_16 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_17 : Ref sig .tc := ⟨.hbm, 143, rfl⟩
abbrev main_v103 : Ref sig .tc := ⟨.hbm, 144, rfl⟩
abbrev main_v104 : Ref sig .tc := ⟨.hbm, 145, rfl⟩
abbrev main_cst_18 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_19 : Ref sig .tc := ⟨.hbm, 160, rfl⟩
abbrev main_v118 : Ref sig .tc := ⟨.hbm, 161, rfl⟩
abbrev main_v119 : Ref sig .tc := ⟨.hbm, 162, rfl⟩
abbrev main_c_20 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_c_21 : Ref sig .tc := ⟨.hbm, 169, rfl⟩
abbrev main_v125 : Ref sig .tc := ⟨.hbm, 170, rfl⟩
abbrev main_v126 : Ref sig .tc := ⟨.hbm, 171, rfl⟩
abbrev main_c_22 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_call1_cst : Ref sig .tc := ⟨.hbm, 183, rfl⟩
abbrev main_call1_v0 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_call2_cst : Ref sig .tc := ⟨.hbm, 190, rfl⟩
abbrev main_call2_v0 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_23 : Ref sig .tc := ⟨.hbm, 207, rfl⟩
abbrev main_v157 : Ref sig .tc := ⟨.hbm, 208, rfl⟩
abbrev main_cst_24 : Ref sig .tc := ⟨.hbm, 209, rfl⟩
abbrev main_v158 : Ref sig .tc := ⟨.hbm, 210, rfl⟩
abbrev main_c_25 : Ref sig .tc := ⟨.hbm, 211, rfl⟩
abbrev main_v159 : Ref sig .tc := ⟨.hbm, 212, rfl⟩
abbrev main_v160 : Ref sig .tc := ⟨.hbm, 213, rfl⟩
abbrev main_c_26 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_27 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_call3_cst : Ref sig .tc := ⟨.hbm, 233, rfl⟩
abbrev main_call3_v0 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_call4_cst : Ref sig .tc := ⟨.hbm, 240, rfl⟩
abbrev main_call4_v0 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩

abbrev nD : Nat := 1
abbrev τ : Topo := Topo.v7x

variable {F : FTy → Type} [FloatOps F]
-- ==== Proof.Prep.lean ====
/- The first call, which prepares the features of the nodes and the gates: what its body leaves in the
   output blocks, and that it does so at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- The block of a window at a grid point, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x100x4 := Rect.unit (s := S1x100x4) ![0, 0, 0] S1x100x4.size inb_S1x100x4_S1x100x4_0_0_0
abbrev r0_1 : Rect S1x100x2 := Rect.unit (s := S1x100x2) ![0, 0, 0] S1x100x2.size inb_S1x100x2_S1x100x2_0_0_0
abbrev r0_2 : Rect S1x100x16 := Rect.unit (s := S1x100x16) ![0, 0, 0] S1x100x16.size inb_S1x100x16_S1x100x16_0_0_0
abbrev r0_3 : Rect S31x64 := Rect.unit (s := S31x64) ![0, 0] S31x64.size inb_S31x64_S31x64_0_0
abbrev r0_4 : Rect S1x64 := Rect.unit (s := S1x64) ![0, 0] S1x64.size inb_S1x64_S1x64_0_0
abbrev r0_5 : Rect S1x104x64 := Rect.unit (s := S1x104x64) ![0, 0, 0] S1x104x64.size inb_S1x104x64_S1x104x64_0_0_0
abbrev r0_6 : Rect S1x104x2 := Rect.unit (s := S1x104x2) ![0, 0, 0] S1x104x2.size inb_S1x104x2_S1x104x2_0_0_0
abbrev r0_7 : Rect S1x2x104 := Rect.unit (s := S1x2x104) ![0, 0, 0] S1x2x104.size inb_S1x2x104_S1x2x104_0_0_0
abbrev r0_8 : Rect S1x100x99x4 := Rect.unit (s := S1x100x99x4) ![0, 0, 0, 0] S1x100x99x4.size inb_S1x100x99x4_S1x100x99x4_0_0_0_0
abbrev r0_9 : Rect S1x3x104x104 := Rect.unit (s := S1x3x104x104) ![0, 0, 0, 0] S1x1x104x104.size inb_S1x3x104x104_S1x1x104x104_0_0_0_0
abbrev r0_10 : Rect S1x3x104x104 := Rect.unit (s := S1x3x104x104) ![0, 1, 0, 0] S1x1x104x104.size inb_S1x3x104x104_S1x1x104x104_0_1_0_0
abbrev r0_11 : Rect S1x3x104x104 := Rect.unit (s := S1x3x104x104) ![0, 2, 0, 0] S1x1x104x104.size inb_S1x3x104x104_S1x1x104x104_0_2_0_0

/-! ## What the body leaves in each output window's buffer -/

def k0_pay40 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x16 .f32 :=
  k0_pay4 (View.ld x2 r0_2) -- `v5`
def k0_pay41 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay5 (View.ld x0 r0_0) -- `v6`
def k0_pay42 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay6 (View.ld x0 r0_0) -- `v7`
def k0_pay43 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay7 (View.ld x0 r0_0) -- `v8`
def k0_pay44 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay8 (View.ld x0 r0_0) -- `v9`
def k0_pay45 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay9 (View.ld x1 r0_1) -- `v10`
def k0_pay46 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay10 (View.ld x1 r0_1) -- `v11`
def k0_pay47 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay14 (View.ld x0 r0_0) -- `v24`
def k0_pay48 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay15 (View.ld x0 r0_0) -- `v27`
def k0_pay49 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay16 (View.ld x0 r0_0) -- `v30`
def k0_pay50 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay17 (View.ld x0 r0_0) -- `v35`
def k0_pay51 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay18 (View.ld x0 r0_0) -- `v38`
def k0_pay52 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay19 (View.ld x0 r0_0) -- `v41`
def k0_pay53 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay20 (View.ld x0 r0_0) -- `v42`
def k0_pay54 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : IVec S100x104 32 :=
  iota .tc S100x104 32 [0] iota_S100x104_d0_w32 -- `v113`
def k0_pay55 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : IVec S100x104 32 :=
  iota .tc S100x104 32 [1] iota_S100x104_d1_w32 -- `v114`
def k0_pay56 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x99x4 .f32 :=
  k0_pay32 (View.ld x3 r0_8) -- `v112`
def k0_pay57 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : FVec F S100x1 .f32 :=
  k0_pay33 (F := F) -- `v115`

/-- What the body leaves in each output block, as the stores it makes. -/
def out0_9 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : Vec F S1x104x64 .f32 :=
  View.canon [⟨r0_5, k0_pay26 (k0_pay22 (k0_pay40 x0 x1 x2 x3 x4 x5 x6 x7 x8) (k0_pay41 x0 x1 x2 x3 x4 x5 x6 x7 x8) (k0_pay42 x0 x1 x2 x3 x4 x5 x6 x7 x8) (k0_pay43 x0 x1 x2 x3 x4 x5 x6 x7 x8) (k0_pay44 x0 x1 x2 x3 x4 x5 x6 x7 x8) (k0_pay45 x0 x1 x2 x3 x4 x5 x6 x7 x8) (k0_pay46 x0 x1 x2 x3 x4 x5 x6 x7 x8) (k0_pay47 x0 x1 x2 x3 x4 x5 x6 x7 x8) (k0_pay48 x0 x1 x2 x3 x4 x5 x6 x7 x8) (k0_pay49 x0 x1 x2 x3 x4 x5 x6 x7 x8) (k0_pay50 x0 x1 x2 x3 x4 x5 x6 x7 x8) (k0_pay51 x0 x1 x2 x3 x4 x5 x6 x7 x8) (k0_pay52 x0 x1 x2 x3 x4 x5 x6 x7 x8) (k0_pay53 x0 x1 x2 x3 x4 x5 x6 x7 x8) (View.ld x4 r0_3))⟩]

theorem cover0_9 (p0 : Vec F S1x104x64 .f32) (y : S1x104x64.Idx) :
    ∃ pc ∈ ([⟨r0_5, p0⟩] : List (View.Piece (Elt F) S1x104x64 .f32)), y ∈ pc.1.set :=
  View.cover_of_tiled [⟨r0_5, p0⟩] S1x104x64.size (by rfl) y

def out0_10 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : Vec F S1x104x64 .f32 :=
  View.canon [⟨r0_5, k0_pay27 (k0_pay23 (k0_pay40 x0 x1 x2 x3 x4 x5 x6 x7 x8) (k0_pay41 x0 x1 x2 x3 x4 x5 x6 x7 x8) (k0_pay42 x0 x1 x2 x3 x4 x5 x6 x7 x8) (k0_pay43 x0 x1 x2 x3 x4 x5 x6 x7 x8) (k0_pay44 x0 x1 x2 x3 x4 x5 x6 x7 x8) (k0_pay45 x0 x1 x2 x3 x4 x5 x6 x7 x8) (k0_pay46 x0 x1 x2 x3 x4 x5 x6 x7 x8) (k0_pay47 x0 x1 x2 x3 x4 x5 x6 x7 x8) (k0_pay48 x0 x1 x2 x3 x4 x5 x6 x7 x8) (k0_pay49 x0 x1 x2 x3 x4 x5 x6 x7 x8) (k0_pay50 x0 x1 x2 x3 x4 x5 x6 x7 x8) (k0_pay51 x0 x1 x2 x3 x4 x5 x6 x7 x8) (k0_pay52 x0 x1 x2 x3 x4 x5 x6 x7 x8) (k0_pay53 x0 x1 x2 x3 x4 x5 x6 x7 x8) (View.ld x5 r0_3) (View.ld x7 r0_4))⟩]

theorem cover0_10 (p0 : Vec F S1x104x64 .f32) (y : S1x104x64.Idx) :
    ∃ pc ∈ ([⟨r0_5, p0⟩] : List (View.Piece (Elt F) S1x104x64 .f32)), y ∈ pc.1.set :=
  View.cover_of_tiled [⟨r0_5, p0⟩] S1x104x64.size (by rfl) y

def out0_11 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : Vec F S1x104x64 .f32 :=
  View.canon [⟨r0_5, k0_pay28 (k0_pay24 (k0_pay40 x0 x1 x2 x3 x4 x5 x6 x7 x8) (k0_pay41 x0 x1 x2 x3 x4 x5 x6 x7 x8) (k0_pay42 x0 x1 x2 x3 x4 x5 x6 x7 x8) (k0_pay43 x0 x1 x2 x3 x4 x5 x6 x7 x8) (k0_pay44 x0 x1 x2 x3 x4 x5 x6 x7 x8) (k0_pay45 x0 x1 x2 x3 x4 x5 x6 x7 x8) (k0_pay46 x0 x1 x2 x3 x4 x5 x6 x7 x8) (k0_pay47 x0 x1 x2 x3 x4 x5 x6 x7 x8) (k0_pay48 x0 x1 x2 x3 x4 x5 x6 x7 x8) (k0_pay49 x0 x1 x2 x3 x4 x5 x6 x7 x8) (k0_pay50 x0 x1 x2 x3 x4 x5 x6 x7 x8) (k0_pay51 x0 x1 x2 x3 x4 x5 x6 x7 x8) (k0_pay52 x0 x1 x2 x3 x4 x5 x6 x7 x8) (k0_pay53 x0 x1 x2 x3 x4 x5 x6 x7 x8) (View.ld x6 r0_3)) (k0_pay25 (View.ld x8 r0_4))⟩]

theorem cover0_11 (p0 : Vec F S1x104x64 .f32) (y : S1x104x64.Idx) :
    ∃ pc ∈ ([⟨r0_5, p0⟩] : List (View.Piece (Elt F) S1x104x64 .f32)), y ∈ pc.1.set :=
  View.cover_of_tiled [⟨r0_5, p0⟩] S1x104x64.size (by rfl) y

def out0_12 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : Vec F S1x104x2 .f32 :=
  View.canon [⟨r0_6, k0_pay30 (k0_pay41 x0 x1 x2 x3 x4 x5 x6 x7 x8) (k0_pay42 x0 x1 x2 x3 x4 x5 x6 x7 x8)⟩]

theorem cover0_12 (p0 : Vec F S1x104x2 .f32) (y : S1x104x2.Idx) :
    ∃ pc ∈ ([⟨r0_6, p0⟩] : List (View.Piece (Elt F) S1x104x2 .f32)), y ∈ pc.1.set :=
  View.cover_of_tiled [⟨r0_6, p0⟩] S1x104x2.size (by rfl) y

def out0_13 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : Vec F S1x2x104 .f32 :=
  View.canon [⟨r0_7, k0_pay31 (k0_pay41 x0 x1 x2 x3 x4 x5 x6 x7 x8) (k0_pay42 x0 x1 x2 x3 x4 x5 x6 x7 x8)⟩]

theorem cover0_13 (p0 : Vec F S1x2x104 .f32) (y : S1x2x104.Idx) :
    ∃ pc ∈ ([⟨r0_7, p0⟩] : List (View.Piece (Elt F) S1x2x104 .f32)), y ∈ pc.1.set :=
  View.cover_of_tiled [⟨r0_7, p0⟩] S1x2x104.size (by rfl) y

def out0_14 (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) : Vec F S1x3x104x104 .f32 :=
  View.canon [⟨r0_11, k0_pay1 (k0_pay54 x0 x1 x2 x3 x4 x5 x6 x7 x8) (k0_pay55 x0 x1 x2 x3 x4 x5 x6 x7 x8) (k0_pay37 (k0_pay56 x0 x1 x2 x3 x4 x5 x6 x7 x8)) (k0_pay38 (k0_pay56 x0 x1 x2 x3 x4 x5 x6 x7 x8) (k0_pay57 x0 x1 x2 x3 x4 x5 x6 x7 x8)) (k0_pay39 (k0_pay54 x0 x1 x2 x3 x4 x5 x6 x7 x8) (k0_pay55 x0 x1 x2 x3 x4 x5 x6 x7 x8))⟩,
    ⟨r0_10, k0_pay36 (k0_pay56 x0 x1 x2 x3 x4 x5 x6 x7 x8) (k0_pay54 x0 x1 x2 x3 x4 x5 x6 x7 x8) (k0_pay55 x0 x1 x2 x3 x4 x5 x6 x7 x8) (k0_pay57 x0 x1 x2 x3 x4 x5 x6 x7 x8)⟩,
    ⟨r0_9, k0_pay35 (k0_pay54 x0 x1 x2 x3 x4 x5 x6 x7 x8) (k0_pay55 x0 x1 x2 x3 x4 x5 x6 x7 x8) (k0_pay57 x0 x1 x2 x3 x4 x5 x6 x7 x8) (k0_pay34 (View.ld x3 r0_8))⟩]

theorem cover0_14 (p0 : Vec F S1x1x104x104 .f32) (p1 : Vec F S1x1x104x104 .f32) (p2 : Vec F S1x1x104x104 .f32) (y : S1x3x104x104.Idx) :
    ∃ pc ∈ ([⟨r0_11, p0⟩, ⟨r0_10, p1⟩, ⟨r0_9, p2⟩] : List (View.Piece (Elt F) S1x3x104x104 .f32)), y ∈ pc.1.set :=
  View.cover_of_tiled [⟨r0_11, p0⟩, ⟨r0_10, p1⟩, ⟨r0_9, p2⟩] S1x1x104x104.size (by rfl) y

/-! ## The body's triple -/

set_option maxHeartbeats 1000000 in
/-- The body, run on whole buffers, ends with each output block at its stores. -/
theorem sound_kernel0 (c : Dev nD) (E : Set ℕ) (i : grid0.Coords) (arg1 : Memref sig .tc .vmem S1x100x4 .f32) (harg1 : arg1.IsWhole) (arg2 : Memref sig .tc .vmem S1x100x2 .f32) (harg2 : arg2.IsWhole) (arg3 : Memref sig .tc .vmem S1x100x16 .f32) (harg3 : arg3.IsWhole) (arg4 : Memref sig .tc .vmem S1x100x99x4 .f32) (harg4 : arg4.IsWhole) (arg5 : Memref sig .tc .vmem S31x64 .f32) (harg5 : arg5.IsWhole) (arg6 : Memref sig .tc .vmem S31x64 .f32) (harg6 : arg6.IsWhole) (arg7 : Memref sig .tc .vmem S31x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x104x64 .f32) (harg10 : arg10.IsWhole) (arg11 : Memref sig .tc .vmem S1x104x64 .f32) (harg11 : arg11.IsWhole) (arg12 : Memref sig .tc .vmem S1x104x64 .f32) (harg12 : arg12.IsWhole) (arg13 : Memref sig .tc .vmem S1x104x2 .f32) (harg13 : arg13.IsWhole) (arg14 : Memref sig .tc .vmem S1x2x104 .f32) (harg14 : arg14.IsWhole) (arg15 : Memref sig .tc .vmem S1x3x104x104 .f32) (harg15 : arg15.IsWhole)
    (x0 : Vec F S1x100x4 .f32) (x1 : Vec F S1x100x2 .f32) (x2 : Vec F S1x100x16 .f32) (x3 : Vec F S1x100x99x4 .f32) (x4 : Vec F S31x64 .f32) (x5 : Vec F S31x64 .f32) (x6 : Vec F S31x64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8)) -∗ K ⟨⟩))
      ⊢ wp frame (wpE (defs₀ (F := F)) Variants.none c none) E (cc0__prep_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__prep_body_eq_skeleton]; unfold cc0__prep_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  iexists _; isplitr
  swap; · iexact H14
  ipureintro
  refine (View.read_writes_eq_canon _ _ _ (cover0_14 _ _ _)).trans ?_
  rfl

/-! ## The pipeline's proof data -/

/-- The contents at each point: inputs at their blocks, outputs at what the body leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.EdgeRuns.lean ====
/- The second call, which sums the messages of the edges: the blocks of its windows, the points at which
   each branch of its body is taken, and the buffers it works on. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Blocks
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

abbrev cond1_0 (i : grid1.Coords) : Prop := k1_cond1 i = 1#1
theorem hcond1_0 : ∀ t : Fin cfg1.N, cond1_0 (grid1.coords t) ↔ t.val % 13 = 0 :=
  (fun t => by
    have ht : t.val < 832 := Nat.lt_of_lt_of_eq t.isLt N_1
    have e0 : (grid1.coords t 0).val = t.val / 13 % 64 := Pipeline.Grid.coords_val t 0 (by decide) rfl
    have e1 : (grid1.coords t 1).val = t.val / 1 % 13 := Pipeline.Grid.coords_val t 1 (by decide) rfl
    simp only [cond1_0, k1_cond1, e0, e1]
    word_cmp
   : ∀ t : Fin grid1.N, cond1_0 (grid1.coords t) ↔ t.val % 13 = 0)

abbrev cond1_1 (i : grid1.Coords) : Prop := k1_cond2 i = 1#1
theorem hcond1_1 : ∀ t : Fin cfg1.N, cond1_1 (grid1.coords t) ↔ 1 ≤ t.val % 13 :=
  (by decide +kernel : ∀ t : Fin grid1.N, cond1_1 (grid1.coords t) ↔ 1 ≤ t.val % 13)

/-! ## Where the windows are idle (the printed configuration's table `Cfg.idle`) -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
def freshTab1_11 : ℕ → Bool
  | 0 => true
  | n + 1 => (0x8004002001000800400200100080040020010008004002001000800400200100080040020010008004002001000800400200100080040020010008004002001000800400200100080040020010008004002001000800400200100080040020010008004002001000 : ℕ).testBit n
theorem freshTab1_11_step : ∀ t : Fin cfg1.N,
    freshTab1_11 (t.val + 1) = ((cfg1.win 11).flush t || (cfg1.idle 11 (cfg1.grid.coords t) && freshTab1_11 t.val)) := by decide +kernel
theorem fresh1_11_eq (t : Fin cfg1.N) : cfg1.fresh 11 t.val = freshTab1_11 t.val :=
  Pipeline.Cfg.fresh_tab cfg1 11 freshTab1_11 rfl freshTab1_11_step t.val (Nat.le_of_lt t.isLt)
theorem liveAt1_11_A : ∀ t : Fin cfg1.N, cond1_0 (grid1.coords t) → ¬cond1_1 (grid1.coords t) → cfg1.idle 11 (grid1.coords t) = false := by decide +kernel
theorem liveAt1_11_B : ∀ t : Fin cfg1.N, ¬cond1_0 (grid1.coords t) → cond1_1 (grid1.coords t) → cfg1.idle 11 (grid1.coords t) = false := by decide +kernel
theorem notFresh1_11_B : ∀ t : Fin cfg1.N, ¬cond1_0 (grid1.coords t) → cond1_1 (grid1.coords t) → cfg1.fresh 11 t.val = false := by
  intro t; rw [fresh1_11_eq t]; revert t; decide +kernel

/-! ## The kernel body on any staging memrefs: a subtype the run finds -/

abbrev VO1_11 : View sig .tc .vmem S1x104x64 .f32 := (Memref.whole cc1_stg11_0 : Memref sig .tc .vmem S1x104x64 .f32).view
abbrev ms1_0 (t : Fin cfg1.N) : Memref sig .tc .vmem S1x8x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x104x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2x104 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x3x8x104 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x192 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x192 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x104x64 .f32 := win1_11.stage (cfg1.slots t 11)
abbrev hs1_11 (t : Fin cfg1.N) : (ms1_11 t).IsWhole := hstage1_11 ((cfg1.slots t 11).cast nbuf1_11)

end Cert.KernelIdeal.Own

end
-- ==== Proof.EdgeRunA.lean ====
/- The second call at the first block of senders, where its output block is set. -/
module

public import proofs.«01_k».proof.Proof.EdgeRuns

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first block of senders: the stores it makes into the output block. -/
noncomputable def kernelRun1_A (c : Dev nD) (i : grid1.Coords) (arg2 : Memref sig .tc .vmem S1x8x64 .f32) (harg2 : arg2.IsWhole) (arg3 : Memref sig .tc .vmem S1x104x64 .f32) (harg3 : arg3.IsWhole) (arg4 : Memref sig .tc .vmem S1x8x2 .f32) (harg4 : arg4.IsWhole) (arg5 : Memref sig .tc .vmem S1x2x104 .f32) (harg5 : arg5.IsWhole) (arg6 : Memref sig .tc .vmem S1x3x8x104 .f32) (harg6 : arg6.IsWhole) (arg7 : Memref sig .tc .vmem S3x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x192 .f32) (harg11 : arg11.IsWhole) (arg12 : Memref sig .tc .vmem S1x192 .f32) (harg12 : arg12.IsWhole) (arg13 : Memref sig .tc .vmem S1x104x64 .f32) (harg13 : arg13.IsWhole) (hc0 : cond1_0 i) (hc1 : ¬cond1_1 i)
    (x0 : Vec F S1x8x64 .f32) (x1 : Vec F S1x104x64 .f32) (x2 : Vec F S1x8x2 .f32) (x3 : Vec F S1x2x104 .f32) (x4 : Vec F S1x3x8x104 .f32) (x5 : Vec F S3x64 .f32) (x6 : Vec F S1x64 .f32) (x7 : Vec F S64x64 .f32) (x8 : Vec F S1x64 .f32) (x9 : Vec F S64x192 .f32) (x10 : Vec F S1x192 .f32) :
    { L11 : List (View.Piece (Elt F) S1x104x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11)) -∗ K ⟨⟩))
          ⊢ wp frame (wpE (defs₀ (F := F)) Variants.none c none) E (cc1__edge_body i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc1__edge_body_eq_skeleton]; unfold cc1__edge_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact H11

end Cert.KernelIdeal.Own

end
-- ==== Proof.EdgeRunB.lean ====
/- The second call at a later block of senders, where its output block is added to. -/
module

public import proofs.«01_k».proof.Proof.EdgeRunA

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a later block of senders: the stores it makes into the output block. -/
noncomputable def kernelRun1_B (c : Dev nD) (i : grid1.Coords) (arg2 : Memref sig .tc .vmem S1x8x64 .f32) (harg2 : arg2.IsWhole) (arg3 : Memref sig .tc .vmem S1x104x64 .f32) (harg3 : arg3.IsWhole) (arg4 : Memref sig .tc .vmem S1x8x2 .f32) (harg4 : arg4.IsWhole) (arg5 : Memref sig .tc .vmem S1x2x104 .f32) (harg5 : arg5.IsWhole) (arg6 : Memref sig .tc .vmem S1x3x8x104 .f32) (harg6 : arg6.IsWhole) (arg7 : Memref sig .tc .vmem S3x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x192 .f32) (harg11 : arg11.IsWhole) (arg12 : Memref sig .tc .vmem S1x192 .f32) (harg12 : arg12.IsWhole) (arg13 : Memref sig .tc .vmem S1x104x64 .f32) (harg13 : arg13.IsWhole) (hc0 : ¬cond1_0 i) (hc1 : cond1_1 i)
    (x0 : Vec F S1x8x64 .f32) (x1 : Vec F S1x104x64 .f32) (x2 : Vec F S1x8x2 .f32) (x3 : Vec F S1x2x104 .f32) (x4 : Vec F S1x3x8x104 .f32) (x5 : Vec F S3x64 .f32) (x6 : Vec F S1x64 .f32) (x7 : Vec F S64x64 .f32) (x8 : Vec F S1x64 .f32) (x9 : Vec F S64x192 .f32) (x10 : Vec F S1x192 .f32) (xo11 : Vec F S1x104x64 .f32) :
    { L11 : List (View.Piece (Elt F) S1x104x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xo11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11)) -∗ K ⟨⟩))
          ⊢ wp frame (wpE (defs₀ (F := F)) Variants.none c none) E (cc1__edge_body i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc1__edge_body_eq_skeleton]; unfold cc1__edge_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact H11

end Cert.KernelIdeal.Own

end
-- ==== Proof.Edge.lean ====
/- The second call: what its output block holds after each point, and that the body leaves it so. -/
module

public import proofs.«01_k».proof.Proof.EdgeRunB
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem cover1_A_11 (c : Dev nD) (i : grid1.Coords) (arg2 : Memref sig .tc .vmem S1x8x64 .f32) (harg2 : arg2.IsWhole) (arg3 : Memref sig .tc .vmem S1x104x64 .f32) (harg3 : arg3.IsWhole) (arg4 : Memref sig .tc .vmem S1x8x2 .f32) (harg4 : arg4.IsWhole) (arg5 : Memref sig .tc .vmem S1x2x104 .f32) (harg5 : arg5.IsWhole) (arg6 : Memref sig .tc .vmem S1x3x8x104 .f32) (harg6 : arg6.IsWhole) (arg7 : Memref sig .tc .vmem S3x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x192 .f32) (harg11 : arg11.IsWhole) (arg12 : Memref sig .tc .vmem S1x192 .f32) (harg12 : arg12.IsWhole) (arg13 : Memref sig .tc .vmem S1x104x64 .f32) (harg13 : arg13.IsWhole) (hc0 : cond1_0 i) (hc1 : ¬cond1_1 i)
    (x0 : Vec F S1x8x64 .f32) (x1 : Vec F S1x104x64 .f32) (x2 : Vec F S1x8x2 .f32) (x3 : Vec F S1x2x104 .f32) (x4 : Vec F S1x3x8x104 .f32) (x5 : Vec F S3x64 .f32) (x6 : Vec F S1x64 .f32) (x7 : Vec F S64x64 .f32) (x8 : Vec F S1x64 .f32) (x9 : Vec F S64x192 .f32) (x10 : Vec F S1x192 .f32) (y : S1x104x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).1 S1x104x64.size (by sl_kernel_rfl) y

def out1_A_11 (c : Dev nD) (i : grid1.Coords) (arg2 : Memref sig .tc .vmem S1x8x64 .f32) (harg2 : arg2.IsWhole) (arg3 : Memref sig .tc .vmem S1x104x64 .f32) (harg3 : arg3.IsWhole) (arg4 : Memref sig .tc .vmem S1x8x2 .f32) (harg4 : arg4.IsWhole) (arg5 : Memref sig .tc .vmem S1x2x104 .f32) (harg5 : arg5.IsWhole) (arg6 : Memref sig .tc .vmem S1x3x8x104 .f32) (harg6 : arg6.IsWhole) (arg7 : Memref sig .tc .vmem S3x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x192 .f32) (harg11 : arg11.IsWhole) (arg12 : Memref sig .tc .vmem S1x192 .f32) (harg12 : arg12.IsWhole) (arg13 : Memref sig .tc .vmem S1x104x64 .f32) (harg13 : arg13.IsWhole) (hc0 : cond1_0 i) (hc1 : ¬cond1_1 i)
    (x0 : Vec F S1x8x64 .f32) (x1 : Vec F S1x104x64 .f32) (x2 : Vec F S1x8x2 .f32) (x3 : Vec F S1x2x104 .f32) (x4 : Vec F S1x3x8x104 .f32) (x5 : Vec F S3x64 .f32) (x6 : Vec F S1x64 .f32) (x7 : Vec F S64x64 .f32) (x8 : Vec F S1x64 .f32) (x9 : Vec F S64x192 .f32) (x10 : Vec F S1x192 .f32) : Vec F S1x104x64 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10).1)

theorem cover1_B_11 (c : Dev nD) (i : grid1.Coords) (arg2 : Memref sig .tc .vmem S1x8x64 .f32) (harg2 : arg2.IsWhole) (arg3 : Memref sig .tc .vmem S1x104x64 .f32) (harg3 : arg3.IsWhole) (arg4 : Memref sig .tc .vmem S1x8x2 .f32) (harg4 : arg4.IsWhole) (arg5 : Memref sig .tc .vmem S1x2x104 .f32) (harg5 : arg5.IsWhole) (arg6 : Memref sig .tc .vmem S1x3x8x104 .f32) (harg6 : arg6.IsWhole) (arg7 : Memref sig .tc .vmem S3x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x192 .f32) (harg11 : arg11.IsWhole) (arg12 : Memref sig .tc .vmem S1x192 .f32) (harg12 : arg12.IsWhole) (arg13 : Memref sig .tc .vmem S1x104x64 .f32) (harg13 : arg13.IsWhole) (hc0 : ¬cond1_0 i) (hc1 : cond1_1 i)
    (x0 : Vec F S1x8x64 .f32) (x1 : Vec F S1x104x64 .f32) (x2 : Vec F S1x8x2 .f32) (x3 : Vec F S1x2x104 .f32) (x4 : Vec F S1x3x8x104 .f32) (x5 : Vec F S3x64 .f32) (x6 : Vec F S1x64 .f32) (x7 : Vec F S64x64 .f32) (x8 : Vec F S1x64 .f32) (x9 : Vec F S64x192 .f32) (x10 : Vec F S1x192 .f32) (xo11 : Vec F S1x104x64 .f32) (y : S1x104x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xo11).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xo11).1 S1x104x64.size (by sl_kernel_rfl) y

def out1_B_11 (c : Dev nD) (i : grid1.Coords) (arg2 : Memref sig .tc .vmem S1x8x64 .f32) (harg2 : arg2.IsWhole) (arg3 : Memref sig .tc .vmem S1x104x64 .f32) (harg3 : arg3.IsWhole) (arg4 : Memref sig .tc .vmem S1x8x2 .f32) (harg4 : arg4.IsWhole) (arg5 : Memref sig .tc .vmem S1x2x104 .f32) (harg5 : arg5.IsWhole) (arg6 : Memref sig .tc .vmem S1x3x8x104 .f32) (harg6 : arg6.IsWhole) (arg7 : Memref sig .tc .vmem S3x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x192 .f32) (harg11 : arg11.IsWhole) (arg12 : Memref sig .tc .vmem S1x192 .f32) (harg12 : arg12.IsWhole) (arg13 : Memref sig .tc .vmem S1x104x64 .f32) (harg13 : arg13.IsWhole) (hc0 : ¬cond1_0 i) (hc1 : cond1_1 i)
    (x0 : Vec F S1x8x64 .f32) (x1 : Vec F S1x104x64 .f32) (x2 : Vec F S1x8x2 .f32) (x3 : Vec F S1x2x104 .f32) (x4 : Vec F S1x3x8x104 .f32) (x5 : Vec F S3x64 .f32) (x6 : Vec F S1x64 .f32) (x7 : Vec F S64x64 .f32) (x8 : Vec F S1x64 .f32) (x9 : Vec F S64x192 .f32) (x10 : Vec F S1x192 .f32) (xo11 : Vec F S1x104x64 .f32) : Vec F S1x104x64 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xo11).1)

/-! ## What the outputs hold after each point -/

variable (V : (c : Dev nD) → (b : Ref sig .tc) → Buf (Elt F) ((c : Thread nD τ).loc b))

/-- What the output block holds after each point: set at the first block of senders, added to at the others. -/
def outsAt1 (c : Dev nD) : (n : ℕ) → n < cfg1.N → Vec F S1x104x64 .f32
  | 0, hn => out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩)
  | n + 1, hn =>
    if h0 : (n + 1) % 13 = 0 then
      if h1 : 1 ≤ (n + 1) % 13 then
        False.elim (by have hN : n + 1 < 832 := lt_of_lt_of_eq hn (show cfg1.N = 832 from N_1); omega)
      else
        out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩)
    else
      if h1 : 1 ≤ (n + 1) % 13 then
        out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn))
      else
        False.elim (by have hN : n + 1 < 832 := lt_of_lt_of_eq hn (show cfg1.N = 832 from N_1); omega)

theorem outsAt1_A (c : Dev nD) (t : Fin cfg1.N) (h0 : t.val % 13 = 0) (h1 : ¬1 ≤ t.val % 13) :
    outsAt1 V c t.val t.isLt = out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by
  obtain ⟨n, hn⟩ := t
  cases n with
  | zero => exact rfl
  | succ n => exact (dif_pos h0).trans ((dif_neg h1).trans rfl)

theorem outsAt1_B (c : Dev nD) (t : Fin cfg1.N) (h0 : ¬t.val % 13 = 0) (h1 : 1 ≤ t.val % 13) :
    outsAt1 V c t.val t.isLt = out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The contents at each point: inputs at their blocks, the output at the sum so far. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

theorem hcarry1_11 (c : Dev nD) : ∀ (t : Fin cfg1.N) (_ : t.val ≠ 0), cfg1.idle 11 (grid1.coords t) = true → cfg1.fresh 11 t.val = false →
    (dat1 V c).after 11 t = (dat1 V c).after 11 ⟨t.val - 1, by omega⟩ := by
  intro t _ hi _
  have hN : t.val < 832 := lt_of_lt_of_eq t.isLt (show cfg1.N = 832 from N_1)
  rw [after1_11, after1_11]
  by_cases h0 : t.val % 13 = 0
  · by_cases h1 : 1 ≤ t.val % 13
    · exfalso; omega
    · rw [liveAt1_11_A t ((hcond1_0 t).mpr h0) (fun h => h1 ((hcond1_1 t).mp h))] at hi
      exact absurd hi Bool.false_ne_true
  · by_cases h1 : 1 ≤ t.val % 13
    · rw [liveAt1_11_B t (fun h => h0 ((hcond1_0 t).mp h)) ((hcond1_1 t).mpr h1)] at hi
      exact absurd hi Bool.false_ne_true
    · exfalso; omega
theorem before1_11_B (c : Dev nD) (t : Fin cfg1.N) (h0 : ¬t.val % 13 = 0) (h1 : 1 ≤ t.val % 13) (d) :
    (dat1 V c).before 11 t d = (outsAt1 V c (t.val - 1) (Nat.lt_of_le_of_lt (Nat.sub_le _ _) t.isLt)) := by
  rw [Dat.before_out_traj _ 11 rfl (fun _ _ => rfl) (hcarry1_11 V c) t.val t rfl d,
    if_neg (by rw [notFresh1_11_B t (fun h => h0 ((hcond1_0 t).mp h)) ((hcond1_1 t).mpr h1)]; exact Bool.false_ne_true)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 2400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl]
  have hN : t.val < 832 := lt_of_lt_of_eq t.isLt (show cfg1.N = 832 from N_1)
  by_cases h0 : t.val % 13 = 0
  · by_cases h1 : 1 ≤ t.val % 13
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11_A t ((hcond1_0 t).mpr h0) (fun h => h1 ((hcond1_1 t).mp h))], after1_11]
      rw [outsAt1_A V c t h0 h1]
      unfold out1_A_11
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iintro ⟨H0, H1, H2, H3, H4, H5, H6, H7, H8, H9, H10, ⟨%e11, H11⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover1_A_11 c _ _ _ _ _ _ _ _ _ _ _ _ _ _ _ _ _ _ _ _ _ _ _ _ _ _ _ _ _ _ _ _ _ _ _ _ _ _)
  · by_cases h1 : 1 ≤ t.val % 13
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11_B t (fun h => h0 ((hcond1_0 t).mp h)) ((hcond1_1 t).mpr h1)], after1_11]
      rw [outsAt1_B V c t h0 h1]
      simp only [before1_11_B V c t h0 h1]
      unfold out1_B_11
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iintro ⟨H0, H1, H2, H3, H4, H5, H6, H7, H8, H9, H10, ⟨%e11, H11⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover1_B_11 c _ _ _ _ _ _ _ _ _ _ _ _ _ _ _ _ _ _ _ _ _ _ _ _ _ _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.Post.lean ====
/- The last call, which turns the sums of the messages into the new node states: what its body leaves in
   the output block, and that it does so at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- The block of a window at a grid point, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x100x4 := Rect.unit (s := S1x100x4) ![0, 0, 0] S1x100x4.size inb_S1x100x4_S1x100x4_0_0_0
abbrev r2_1 : Rect S1x104x64 := Rect.unit (s := S1x104x64) ![0, 0, 0] S1x100x64.size inb_S1x104x64_S1x100x64_0_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0
abbrev r2_4 : Rect S64x4 := Rect.unit (s := S64x4) ![0, 0] S64x4.size inb_S64x4_S64x4_0_0
abbrev r2_5 : Rect S1x4 := Rect.unit (s := S1x4) ![0, 0] S1x4.size inb_S1x4_S1x4_0_0

/-! ## What the body leaves in each output window's buffer -/

/-- What the body leaves in the output block, as the store it makes. -/
def out2_9 (x0 : Vec F S1x104x64 .f32) (x1 : Vec F S1x104x64 .f32) (x2 : Vec F S1x100x4 .f32) (x3 : Vec F S64x64 .f32) (x4 : Vec F S1x64 .f32) (x5 : Vec F S64x64 .f32) (x6 : Vec F S1x64 .f32) (x7 : Vec F S64x4 .f32) (x8 : Vec F S1x4 .f32) : Vec F S1x100x4 .f32 :=
  View.canon [⟨r2_0, k2_pay1 (k2_pay2 (View.ld x2 r2_0)) (k2_pay3 (View.ld x0 r2_1) (View.ld x1 r2_1) (View.ld x3 r2_2) (View.ld x4 r2_3) (View.ld x5 r2_2) (View.ld x6 r2_3) (View.ld x7 r2_4) (View.ld x8 r2_5)) (k2_pay4 (View.ld x2 r2_0))⟩]

theorem cover2_9 (p0 : Vec F S1x100x4 .f32) (y : S1x100x4.Idx) :
    ∃ pc ∈ ([⟨r2_0, p0⟩] : List (View.Piece (Elt F) S1x100x4 .f32)), y ∈ pc.1.set :=
  View.cover_of_tiled [⟨r2_0, p0⟩] S1x100x4.size (by rfl) y

/-! ## The body's triple -/

set_option maxHeartbeats 1000000 in
theorem sound_kernel2 (c : Dev nD) (E : Set ℕ) (i : grid2.Coords) (arg1 : Memref sig .tc .vmem S1x104x64 .f32) (harg1 : arg1.IsWhole) (arg2 : Memref sig .tc .vmem S1x104x64 .f32) (harg2 : arg2.IsWhole) (arg3 : Memref sig .tc .vmem S1x100x4 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x4 .f32) (harg8 : arg8.IsWhole) (arg9 : Memref sig .tc .vmem S1x4 .f32) (harg9 : arg9.IsWhole) (arg10 : Memref sig .tc .vmem S1x100x4 .f32) (harg10 : arg10.IsWhole)
    (x0 : Vec F S1x104x64 .f32) (x1 : Vec F S1x104x64 .f32) (x2 : Vec F S1x100x4 .f32) (x3 : Vec F S64x64 .f32) (x4 : Vec F S1x64 .f32) (x5 : Vec F S64x64 .f32) (x6 : Vec F S1x64 .f32) (x7 : Vec F S64x4 .f32) (x8 : Vec F S1x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__post_body i arg1 harg1 arg2 harg2 arg3 harg3 arg4 harg4 arg5 harg5 arg6 harg6 arg7 harg7 arg8 harg8 arg9 harg9 arg10 harg10) K := by
  simp only [cc2__post_body_eq_skeleton]; unfold cc2__post_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The contents at each point: inputs at their blocks, the output at what the body leaves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Own

end
-- ==== Proof.Run.lean ====
/- The whole program: the three calls and the operations between them, run from any memory to the end. -/
module

public import proofs.«01_k».proof.Proof.Prep
public import proofs.«01_k».proof.Proof.Edge
public import proofs.«01_k».proof.Proof.Post
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents of the buffers between the parts of the program -/

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- The operations before call 1 write no argument array. -/
theorem hostOps0_args : ∀ a ∈ argRefs, a ∉ hostOps0_W := ListAll.forall_mem_of_all_decide (by decide +kernel)
/-- The buffers when call 1 is entered. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same contents, at the references of the core. -/
abbrev V1 : (c : Dev nD) → (b : Ref sig .tc) → Buf (Elt F) ((c : Thread nD τ).loc b) := fun c b => W1 m ρ c b
/-- The buffers after call 1: its arrays at what it leaves, the others as they were. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no result of call 1 is left as it was. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The operations before call 2 write no argument array. -/
theorem hostOps1_args : ∀ a ∈ argRefs, a ∉ hostOps1_W := ListAll.forall_mem_of_all_decide (by decide +kernel)
/-- The buffers when call 2 is entered. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same contents, at the references of the core. -/
abbrev V3 : (c : Dev nD) → (b : Ref sig .tc) → Buf (Elt F) ((c : Thread nD τ).loc b) := fun c b => W3 m ρ c b
/-- The buffers after call 2: its arrays at what it leaves, the others as they were. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no result of call 2 is left as it was. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The operations before call 3 write no argument array. -/
theorem hostOps2_args : ∀ a ∈ argRefs, a ∉ hostOps2_W := ListAll.forall_mem_of_all_decide (by decide +kernel)
/-- The buffers when call 3 is entered. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same contents, at the references of the core. -/
abbrev V5 : (c : Dev nD) → (b : Ref sig .tc) → Buf (Elt F) ((c : Thread nD τ).loc b) := fun c b => W5 m ρ c b
/-- The buffers after call 3: its arrays at what it leaves, the others as they were. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A buffer that is no result of call 3 is left as it was. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- The contents each call works on. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)
/-! ## The calls as segments -/

set_option backward.isDefEq.respectTransparency.types false in
/-- Call 1 as a segment of the program, between the contents before it and after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program, between the contents before it and after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of the program, between the contents before it and after it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO
/-! ## @main as segments, and the launch -/

/-- The program, part by part. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The program runs to its end, with every buffer at the contents after the last call and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The program runs to its end, with its result at the contents after the last call, its arguments as launched, and
    every counter at zero. -/
theorem run : θ_run defs (onTc (τ := τ) (main (F := F))) ⟨m, fun _ => 0, ρ⟩ (fun r => (∀ c : Dev nD,
      r.2.mem ((c.tc : Thread nD τ).loc main_v25) = W6 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun r h => ⟨fun c =>
    have rd : ∀ a ∈ argRefs, ¬ (Proc.devRef .tc a : DevRef τ sig).isScoped → r.2.mem ((c.tc : Thread nD τ).loc a) = m ((c.tc : Thread nD τ).loc a) :=
      fun a ha hs => (h.1 c _ (mem_uc a hs)).trans (W6_args m ρ c a ha)
    ⟨h.1 c _ (mem_uc main_v25 (by decide)), rd main_arg0 (by decide) (by decide), rd main_arg1 (by decide) (by decide), rd main_arg2 (by decide) (by decide), rd main_arg3 (by decide) (by decide), rd main_arg4 (by decide) (by decide), rd main_arg5 (by decide) (by decide), rd main_arg6 (by decide) (by decide), rd main_arg7 (by decide) (by decide), rd main_arg8 (by decide) (by decide), rd main_arg9 (by decide) (by decide), rd main_arg10 (by decide) (by decide), rd main_arg11 (by decide) (by decide), rd main_arg12 (by decide) (by decide), rd main_arg13 (by decide) (by decide), rd main_arg14 (by decide) (by decide), rd main_arg15 (by decide) (by decide), rd main_arg16 (by decide) (by decide), rd main_arg17 (by decide) (by decide), rd main_arg18 (by decide) (by decide), rd main_arg19 (by decide) (by decide), rd main_arg20 (by decide) (by decide)⟩, h.2⟩) (run_all m ρ)

/-- The arguments end as launched and every counter ends at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun _ h => ⟨fun c => (h.1 c).2, h.2⟩) (run m ρ)

end Cert.KernelIdeal.Own

end
-- ==== Proof.Frames.lean ====
module

public import proofs.«01_k».proof.Defs
public import proofs.«01_k».proof.Proof.Run
public import proofs.«01_k».proof.Proof.Printed.Run
public import proofs.«01_k».proof.Proof.Gen.ReferenceIdeal.Run
public import Idealize.ShloMosaic.Lib.Quiescent

/-! Each program leaves its arguments alone and its counters at zero. -/

@[expose] public section

noncomputable section

namespace Cert.Proof

open Idealize.ShloMosaic Idealize.SL.Sem

/-- The kernel as printed. -/
theorem kernel_frame : Cert.quiescent_Kernel (hKernel := Cert.Kernel.Gen.facts) := fun m g _ =>
  Cert.Kernel.Own.frame m g

/-- The kernel with its constant named. -/
theorem kernelIdeal_frame : Cert.quiescent_KernelIdeal (hKernelIdeal := Cert.KernelIdeal.Gen.facts) := fun m g _ =>
  Cert.KernelIdeal.Own.frame m g

/-- The reference, which has no counter at all. -/
theorem reference_frame : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- The named constant is the number its word stands for. -/
theorem constant_named : Cert.preserves_Kernel_KernelIdeal :=
  IdealRules.named_const.statement _ _ _ _ _ rfl

end Cert.Proof
-- ==== Proof.Spec.lean ====
module
public import Idealize.ShloMosaic.PureOps.Ideal.Laws

/-! The layer's mathematics, element by element, over the extended reals: one function per step, each of plain
numbers and of plain families indexed by node, feature or channel. Both programs are read into these. -/

@[expose] public section
noncomputable section
namespace Cert.Spec
open Idealize.ShloMosaic

/-- The length of the vector `(x, y)`. -/
def len (x y : EReal) : EReal := Ideal.sqrt (x * x + y * y)

/-- The cosine of the direction of `(x, y)`, read off the coordinates; `1` at the origin. -/
def dirc (x y : EReal) : EReal :=
  if 0 < len x y then x * Ideal.div 1 (if 0 < len x y then len x y else 1) else 1

/-- The sine of the direction of `(x, y)`; `0` at the origin. -/
def dirs (x y : EReal) : EReal :=
  if 0 < len x y then y * Ideal.div 1 (if 0 < len x y then len x y else 1) else 0

/-- The single-precision number nearest `1e-8`, which keeps a norm away from zero. -/
def eps : EReal := Ideal.ofBits .f32 0x322BCC77#32

/-- The guarded norm of `(x, y)`. -/
def norm2 (x y : EReal) : EReal := Ideal.sqrt (x * x + y * y + eps)

/-- The six coordinates of one node (position, velocity, field): the node's state, then the predicted field. -/
def ext (p : Fin 4 → EReal) (fl : Fin 2 → EReal) : Fin 6 → EReal := ![p 0, p 1, p 2, p 3, fl 0, fl 1]

/-- The six coordinates turned into the node's own frame. -/
def loc (p : Fin 4 → EReal) (fl : Fin 2 → EReal) : Fin 6 → EReal :=
  ![dirc (p 2) (p 3) * p 0 + dirs (p 2) (p 3) * p 1, -dirs (p 2) (p 3) * p 0 + dirc (p 2) (p 3) * p 1,
    dirc (p 2) (p 3) * p 2 + dirs (p 2) (p 3) * p 3, -dirs (p 2) (p 3) * p 2 + dirc (p 2) (p 3) * p 3,
    dirc (p 2) (p 3) * fl 0 + dirs (p 2) (p 3) * fl 1, -dirs (p 2) (p 3) * fl 0 + dirc (p 2) (p 3) * fl 1]

/-- The nine extra features of one node. -/
def extra (p : Fin 4 → EReal) (fl : Fin 2 → EReal) : Fin 9 → EReal :=
  ![norm2 (p 2) (p 3), norm2 (p 0) (p 1), dirc (p 2) (p 3), dirs (p 2) (p 3),
    loc p fl 0, loc p fl 1, loc p fl 4, loc p fl 5, norm2 (fl 0) (fl 1)]

/-- All 31 features of one node: local coordinates, extra features, charge embedding. -/
def feat (p : Fin 4 → EReal) (fl : Fin 2 → EReal) (ce : Fin 16 → EReal) (k : Fin 31) : EReal :=
  if h : k.val < 6 then loc p fl ⟨k.val, h⟩
  else if h' : k.val < 15 then extra p fl ⟨k.val - 6, by omega⟩
  else ce ⟨k.val - 15, by omega⟩

/-- The weights that meet a sending node's features. -/
def wsend (W : Fin 56 → Fin 64 → EReal) (k : Fin 31) (o : Fin 64) : EReal :=
  if k.val < 6 then W ⟨18 + k.val % 6, by omega⟩ o
  else if h' : k.val < 15 then W ⟨9 + (k.val - 6), by omega⟩ o
  else W ⟨40 + (k.val - 15), by omega⟩ o

/-- The weights that meet a receiving node's features; the local coordinates enter with a minus. -/
def wrecv (W : Fin 56 → Fin 64 → EReal) (k : Fin 31) (o : Fin 64) : EReal :=
  if k.val < 6 then -W ⟨18 + k.val % 6, by omega⟩ o
  else if h' : k.val < 15 then W ⟨k.val - 6, by omega⟩ o
  else W ⟨24 + (k.val - 15), by omega⟩ o

/-- One hidden value of the position network on a displacement `(dx, dy)` given as distance, cosine and sine. -/
def polar (d c s : EReal) (w : Fin 3 → Fin 64 → EReal) (b : Fin 64 → EReal) (m : Fin 64) : EReal :=
  max (d * w 0 m + c * w 1 m + s * w 2 m + b m) 0

/-- The position network's output. -/
def posnet (d c s : EReal) (w1 : Fin 3 → Fin 64 → EReal) (b1 : Fin 64 → EReal) (w2 : Fin 64 → Fin 64 → EReal)
    (b2 : Fin 64 → EReal) (q : Fin 64) : EReal :=
  ∑ m, polar d c s w1 b1 m * w2 m q + b2 q

/-- One edge's contribution to channel `o`: the message for each kind of edge, weighted by how much the edge is of
that kind. -/
def edge (h : Fin 64 → EReal) (f : Fin 64 → EReal) (wo : Fin 64 → Fin 3 → Fin 64 → EReal)
    (bo : Fin 3 → Fin 64 → EReal) (g : Fin 3 → EReal) (o : Fin 64) : EReal :=
  (∑ q, h q * f q * wo q 0 o + bo 0 o) * g 0 + (∑ q, h q * f q * wo q 1 o + bo 1 o) * g 1
    + (∑ q, h q * f q * wo q 2 o + bo 2 o) * g 2

/-- One ordered pair of nodes' contribution, from what the two nodes bring and their displacement. -/
def pair (sa ar : Fin 64 → EReal) (dx dy : EReal) (w1 : Fin 3 → Fin 64 → EReal) (b1 : Fin 64 → EReal) (w2 : Fin 64 → Fin 64 → EReal)
    (b2 : Fin 64 → EReal) (wo : Fin 64 → Fin 3 → Fin 64 → EReal) (bo : Fin 3 → Fin 64 → EReal) (g : Fin 3 → EReal) (o : Fin 64) : EReal :=
  edge (fun q => max (sa q + ar q) 0) (posnet (norm2 dx dy) (dirc dx dy) (dirs dx dy) w1 b1 w2 b2) wo bo g o

/-- The output network on one node's 64 features. -/
def head (a : Fin 64 → EReal) (w1 : Fin 64 → Fin 64 → EReal) (b1 : Fin 64 → EReal) (w2 : Fin 64 → Fin 64 → EReal)
    (b2 : Fin 64 → EReal) (w3 : Fin 64 → Fin 4 → EReal) (b3 : Fin 4 → EReal) (k : Fin 4) : EReal :=
  ∑ q, max (∑ m, max (∑ l, a l * w1 l m + b1 m) 0 * w2 m q + b2 q) 0 * w3 q k + b3 k

/-- A prediction in the node's own frame turned back and added to the node's state. -/
def turn (p : Fin 4 → EReal) (r : Fin 4 → EReal) : Fin 4 → EReal :=
  ![p 0 + (dirc (p 2) (p 3) * r 0 - dirs (p 2) (p 3) * r 1), p 1 + (dirs (p 2) (p 3) * r 0 + dirc (p 2) (p 3) * r 1),
    p 2 + (dirc (p 2) (p 3) * r 2 - dirs (p 2) (p 3) * r 3), p 3 + (dirs (p 2) (p 3) * r 2 + dirc (p 2) (p 3) * r 3)]

end Cert.Spec
-- ==== Proof.Trig.lean ====
module
public import proofs.«01_k».proof.Proof.Spec
public import Mathlib.Analysis.SpecialFunctions.Trigonometric.Arctan

/-! The direction of a vector: the cosine and sine of its angle are its coordinates over its length. -/

@[expose] public section
noncomputable section
namespace Cert.Spec
open Idealize.ShloMosaic

theorem len_coe (x y : ℝ) : len (x : EReal) (y : EReal) = ((Real.sqrt (x * x + y * y) : ℝ) : EReal) := by
  unfold len
  rw [← EReal.coe_mul, ← EReal.coe_mul, ← EReal.coe_add]
  show (if x * x + y * y < 0 then ⊥ else ((Real.sqrt (x * x + y * y) : ℝ) : EReal)) = _
  rw [if_neg (by nlinarith [mul_self_nonneg x, mul_self_nonneg y])]

theorem div_one_coe {r : ℝ} (h : 0 < r) : Ideal.div 1 (r : EReal) = ((1 / r : ℝ) : EReal) := by
  unfold Ideal.div
  rw [if_neg (by simpa using h.ne'), ← EReal.coe_inv, one_mul, one_div]

theorem dirc_coe (x y : ℝ) : dirc (x : EReal) (y : EReal)
    = ((if 0 < Real.sqrt (x * x + y * y) then x / Real.sqrt (x * x + y * y) else 1 : ℝ) : EReal) := by
  unfold dirc
  rw [len_coe]
  by_cases h : 0 < Real.sqrt (x * x + y * y)
  · have h' : (0 : EReal) < ((Real.sqrt (x * x + y * y) : ℝ) : EReal) := by exact_mod_cast h
    rw [if_pos h', if_pos h', if_pos h, div_one_coe h, ← EReal.coe_mul, mul_one_div]
  · have h' : ¬ (0 : EReal) < ((Real.sqrt (x * x + y * y) : ℝ) : EReal) := by exact_mod_cast h
    rw [if_neg h', if_neg h]; rfl

theorem dirs_coe (x y : ℝ) : dirs (x : EReal) (y : EReal)
    = ((if 0 < Real.sqrt (x * x + y * y) then y / Real.sqrt (x * x + y * y) else 0 : ℝ) : EReal) := by
  unfold dirs
  rw [len_coe]
  by_cases h : 0 < Real.sqrt (x * x + y * y)
  · have h' : (0 : EReal) < ((Real.sqrt (x * x + y * y) : ℝ) : EReal) := by exact_mod_cast h
    rw [if_pos h', if_pos h', if_pos h, div_one_coe h, ← EReal.coe_mul, mul_one_div]
  · have h' : ¬ (0 : EReal) < ((Real.sqrt (x * x + y * y) : ℝ) : EReal) := by exact_mod_cast h
    rw [if_neg h', if_neg h]; rfl

/-- The length of `(1, y / x)` is the length of `(x, y)` over that of `x`. -/
theorem sqrt_slope {x : ℝ} (y : ℝ) (h : x ≠ 0) : Real.sqrt (1 + (y / x) ^ 2) = Real.sqrt (x * x + y * y) / |x| := by
  have hx : 0 < x * x := mul_self_pos.mpr h
  rw [← Real.sqrt_mul_self_eq_abs, ← Real.sqrt_div' _ hx.le]
  congr 1
  field_simp

/-- The angle of `(x, y)`, as a real number. -/
def angle (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

theorem atan2_coe (y x : ℝ) : Ideal.atan2 (y : EReal) (x : EReal) = ((angle y x : ℝ) : EReal) := rfl

theorem len_pos_of_ne {x : ℝ} (y : ℝ) (h : x ≠ 0) : 0 < Real.sqrt (x * x + y * y) :=
  Real.sqrt_pos.mpr (by nlinarith [mul_self_pos.mpr h, mul_self_nonneg y])

theorem cos_angle (y x : ℝ) : Real.cos (angle y x)
    = if 0 < Real.sqrt (x * x + y * y) then x / Real.sqrt (x * x + y * y) else 1 := by
  unfold angle
  rcases lt_trichotomy x 0 with h | h | h
  · have hp := len_pos_of_ne y h.ne
    rw [if_neg h.not_gt, if_pos h, if_pos hp]
    have e : Real.cos (Real.arctan (y / x)) = -(x / Real.sqrt (x * x + y * y)) := by
      rw [Real.cos_arctan, sqrt_slope y h.ne, abs_of_neg h]; field_simp
    split_ifs
    · rw [Real.cos_add_pi, e, neg_neg]
    · rw [Real.cos_sub_pi, e, neg_neg]
  · subst h
    rw [if_neg (lt_irrefl _), if_neg (lt_irrefl _), zero_div]
    rcases lt_trichotomy y 0 with h | h | h
    · rw [if_neg h.not_gt, if_pos h, Real.cos_neg, Real.cos_pi_div_two,
        if_pos (Real.sqrt_pos.mpr (by nlinarith [mul_self_pos.mpr h.ne]))]
    · subst h; simp
    · rw [if_pos h, Real.cos_pi_div_two, if_pos (Real.sqrt_pos.mpr (by nlinarith [mul_self_pos.mpr h.ne']))]
  · have hp := len_pos_of_ne y h.ne'
    rw [if_pos h, if_pos hp, Real.cos_arctan, sqrt_slope y h.ne', abs_of_pos h]; field_simp

theorem sin_angle (y x : ℝ) : Real.sin (angle y x)
    = if 0 < Real.sqrt (x * x + y * y) then y / Real.sqrt (x * x + y * y) else 0 := by
  unfold angle
  rcases lt_trichotomy x 0 with h | h | h
  · have hp := len_pos_of_ne y h.ne
    rw [if_neg h.not_gt, if_pos h, if_pos hp]
    have e : Real.sin (Real.arctan (y / x)) = -(y / Real.sqrt (x * x + y * y)) := by
      rw [Real.sin_arctan, sqrt_slope y h.ne, abs_of_neg h]; have := h.ne; field_simp
    split_ifs
    · rw [Real.sin_add_pi, e, neg_neg]
    · rw [Real.sin_sub_pi, e, neg_neg]
  · subst h
    rw [if_neg (lt_irrefl _), if_neg (lt_irrefl _), zero_mul, zero_add, Real.sqrt_mul_self_eq_abs]
    rcases lt_trichotomy y 0 with h | h | h
    · rw [if_neg h.not_gt, if_pos h, Real.sin_neg, Real.sin_pi_div_two, if_pos (abs_pos.mpr h.ne), abs_of_neg h]
      have := h.ne; field_simp
    · subst h; simp
    · rw [if_pos h, Real.sin_pi_div_two, if_pos (abs_pos.mpr h.ne'), abs_of_pos h, div_self h.ne']
  · have hp := len_pos_of_ne y h.ne'
    rw [if_pos h, if_pos hp, Real.sin_arctan, sqrt_slope y h.ne', abs_of_pos h]; field_simp

/-- The cosine of the angle of a finite vector is its direction's. -/
theorem cos_atan2 (y x : ℝ) : Ideal.cos (Ideal.atan2 (y : EReal) (x : EReal)) = dirc (x : EReal) (y : EReal) := by
  rw [atan2_coe, dirc_coe, ← cos_angle]; rfl

/-- The sine of the angle of a finite vector is its direction's. -/
theorem sin_atan2 (y x : ℝ) : Ideal.sin (Ideal.atan2 (y : EReal) (x : EReal)) = dirs (x : EReal) (y : EReal) := by
  rw [atan2_coe, dirs_coe, ← sin_angle]; rfl

/-- A finite vector has a finite direction. -/
theorem dirc_real (x y : ℝ) : ∃ r : ℝ, dirc (x : EReal) (y : EReal) = (r : EReal) := ⟨_, dirc_coe x y⟩

theorem dirs_real (x y : ℝ) : ∃ r : ℝ, dirs (x : EReal) (y : EReal) = (r : EReal) := ⟨_, dirs_coe x y⟩

end Cert.Spec
-- ==== Proof.Layer.lean ====
module
public import proofs.«01_k».proof.Proof.Trig

/-! The whole layer, element by element: what both programs are shown to compute. -/

@[expose] public section
noncomputable section
namespace Cert.Spec
open Idealize.ShloMosaic

/-- The message weights' column that holds channel `o` of kind `ch`. -/
def src (ch : Fin 3) (o : Fin 64) : Fin 192 := ⟨o.val * 3 + ch.val, by omega⟩

/-- The place in a graph's list of edges of the `k`-th edge out of node `i`. -/
def edgeIx (i : Fin 100) (k : Fin 99) : Fin 9900 := ⟨i.val * 99 + k.val, by omega⟩

/-- The node the `k`-th edge out of node `i` goes to: the `k`-th of the other nodes. -/
def other (i : Fin 100) (k : Fin 99) : Fin 100 := ⟨if k.val < i.val then k.val else k.val + 1, by split_ifs <;> omega⟩

/-- Which of node `i`'s edges goes to the node `j ≠ i`. -/
def slot (i j : Fin 100) : Fin 99 := ⟨if j.val < i.val then j.val else j.val - 1, by split_ifs <;> omega⟩

theorem other_slot {i j : Fin 100} (h : i ≠ j) : other i (slot i j) = j := by
  have h : i.val ≠ j.val := fun e => h (Fin.ext e)
  refine Fin.ext ?_
  unfold other slot
  simp only
  split_ifs <;> omega

theorem other_eq_iff (i j : Fin 100) (k : Fin 99) : other i k = j ↔ i ≠ j ∧ k = slot i j := by
  constructor
  · rintro rfl
    have h : i.val ≠ (other i k).val := by unfold other; simp only; split_ifs <;> omega
    refine ⟨fun e => h (congrArg Fin.val e), Fin.ext ?_⟩
    unfold slot other
    simp only
    split_ifs <;> omega
  · rintro ⟨h, rfl⟩
    exact other_slot h

/-- A total over the edges into node `j`, taken over the nodes they come from. -/
theorem sum_into (f : Fin 9900 → EReal) (j : Fin 100) (P : Fin 9900 → Prop) [DecidablePred P]
    (hP : ∀ i k, P (edgeIx i k) ↔ other i k = j) :
    ∑ e ∈ Finset.univ.filter P, f e = ∑ i : Fin 100, if i = j then 0 else f (edgeIx i (slot i j)) := by
  rw [Finset.sum_filter, ← Equiv.sum_comp (finProdFinEquiv (m := 100) (n := 99)), Fintype.sum_prod_type]
  refine Finset.sum_congr rfl fun i _ => ?_
  have hx : ∀ k : Fin 99, finProdFinEquiv (m := 100) (n := 99) (i, k) = edgeIx i k := fun k => Fin.ext (by
    show k.val + 99 * i.val = i.val * 99 + k.val
    omega)
  have hs : ∀ k : Fin 99, (if P (finProdFinEquiv (m := 100) (n := 99) (i, k)) then f (finProdFinEquiv (m := 100) (n := 99) (i, k)) else 0)
      = if i ≠ j ∧ k = slot i j then f (edgeIx i k) else 0 := fun k => by
    rw [hx]
    exact if_congr ((hP i k).trans (other_eq_iff i j k)) rfl rfl
  refine (Finset.sum_congr rfl fun k _ => hs k).trans ?_
  by_cases h : i = j
  · simp [h]
  · simp [h]

/-- The layer's result for node `n` of one graph: the totals over incoming edges, averaged, plus the node's own
part, through the output network, turned back and added to the state. -/
def result (x : Fin 100 → Fin 4 → EReal) (f : Fin 100 → Fin 2 → EReal) (ce : Fin 100 → Fin 16 → EReal) (e : Fin 100 → Fin 99 → Fin 3 → EReal)
    (Wr : Fin 31 → Fin 64 → EReal) (br : Fin 64 → EReal) (Wa : Fin 56 → Fin 64 → EReal) (ba : Fin 64 → EReal)
    (w1 : Fin 3 → Fin 64 → EReal) (b1 : Fin 64 → EReal) (w2 : Fin 64 → Fin 64 → EReal) (b2 : Fin 64 → EReal)
    (wo : Fin 64 → Fin 192 → EReal) (bo : Fin 192 → EReal)
    (u1 : Fin 64 → Fin 64 → EReal) (c1 : Fin 64 → EReal) (u2 : Fin 64 → Fin 64 → EReal) (c2 : Fin 64 → EReal)
    (u3 : Fin 64 → Fin 4 → EReal) (c3 : Fin 4 → EReal) (n : Fin 100) (k : Fin 4) : EReal :=
  turn (x n) (head
    (fun l => (∑ i : Fin 100, if i = n then 0 else
        pair (fun q => ∑ k, feat (x i) (f i) (ce i) k * wsend Wa k q) (fun q => ∑ k, feat (x n) (f n) (ce n) k * wrecv Wa k q + ba q)
          (x i 0 - x n 0) (x i 1 - x n 1) w1 b1 w2 b2 (fun q ch o => wo q (src ch o)) (fun ch o => bo (src ch o)) (e i (slot i n)) l)
      * ((1/99 : ℝ) : EReal) + (∑ k, feat (x n) (f n) (ce n) k * Wr k l + br l))
    u1 c1 u2 c2 u3 c3) k

end Cert.Spec
-- ==== Proof.EdgeBody.lean ====
module
public import proofs.«01_k».proof.Proof.Edge
public import proofs.«01_k».proof.Proof.Spec
public import Idealize.ShloMosaic.Lib.Pointwise
public import Idealize.ShloMosaic.Lib.Pipeline.ValueKit
public import Idealize.ShloMosaic.Lib.Pipeline.Covers

/-! The second body, element by element. -/

@[expose] public section
set_option maxRecDepth 16384
noncomputable section
namespace Cert.KernelIdeal.Own
open Idealize.ShloMosaic Idealize.SL.Sem Cert.KernelIdeal Cert.KernelIdeal.Gen

/-- The column of the widened output weights that holds channel `o` of kind `ch`. -/
def col (ch : Fin 3) (o : Fin 64) : Fin 192 := ![⟨o.val, by omega⟩, ⟨64 + o.val, by omega⟩, ⟨128 + o.val, by omega⟩] ch

variable (x0 : Vec Ideal S1x8x64 .f32) (x1 : Vec Ideal S1x104x64 .f32) (x2 : Vec Ideal S1x8x2 .f32) (x3 : Vec Ideal S1x2x104 .f32) (x4 : Vec Ideal S1x3x8x104 .f32) (x5 : Vec Ideal S3x64 .f32) (x6 : Vec Ideal S1x64 .f32) (x7 : Vec Ideal S64x64 .f32) (x8 : Vec Ideal S1x64 .f32) (x9 : Vec Ideal S64x192 .f32) (x10 : Vec Ideal S1x192 .f32)

/-- The senders' and the receivers' coordinates as the body loads them. -/
abbrev sx := View.ld x2 (Rect.unit ![0, 0, 0] ![1, 8, 1] inb_S1x8x2_S1x8x1_0_0_0)
abbrev sy := View.ld x2 (Rect.unit ![0, 0, 1] ![1, 8, 1] inb_S1x8x2_S1x8x1_0_0_1)
abbrev rx := View.ld x3 (Rect.unit ![0, 0, 0] ![1, 1, 104] inb_S1x2x104_S1x1x104_0_0_0)
abbrev ry := View.ld x3 (Rect.unit ![0, 1, 0] ![1, 1, 104] inb_S1x2x104_S1x1x104_0_1_0)

/-- What one block of senders adds, as the body computes it from its blocks. -/
def edgeBlock : FVec Ideal S1x104x64 .f32 :=
  k1_pay11
      (k1_pay10 (k1_pay2 x0 x1) (k1_pay3 (sx x2) (rx x3)) (k1_pay4 (sy x2) (ry x3)) (k1_pay6 (sx x2) (sy x2) (rx x3) (ry x3))
        (k1_pay8 (sx x2) (sy x2) (rx x3) (ry x3)) (k1_pay9 (sx x2) (sy x2) (rx x3) (ry x3)) x5 x6 x7 x8) x9 x10
      (View.ld x4 (Rect.unit ![0, 0, 0, 0] ![1, 1, 8, 104] inb_S1x3x8x104_S1x1x8x104_0_0_0_0))
      (View.ld x4 (Rect.unit ![0, 1, 0, 0] ![1, 1, 8, 104] inb_S1x3x8x104_S1x1x8x104_0_1_0_0))
      (View.ld x4 (Rect.unit ![0, 2, 0, 0] ![1, 1, 8, 104] inb_S1x3x8x104_S1x1x8x104_0_2_0_0))

/-- The displacement from receiver `j` to sender `i`. -/
theorem dx_apply (i : Fin 8) (j : Fin 104) : k1_pay3 (sx x2) (rx x3) (ix2 i j) = x2 (ix3 0 i 0) - x3 (ix3 0 0 j) := by
  unfold sx rx; pointwise [k1_pay3]

theorem dy_apply (i : Fin 8) (j : Fin 104) : k1_pay4 (sy x2) (ry x3) (ix2 i j) = x2 (ix3 0 i 1) - x3 (ix3 0 1 j) := by
  unfold sy ry; pointwise [k1_pay4]

theorem dist_apply (i : Fin 8) (j : Fin 104) : k1_pay6 (sx x2) (sy x2) (rx x3) (ry x3) (ix2 i j)
    = Spec.norm2 (x2 (ix3 0 i 0) - x3 (ix3 0 0 j)) (x2 (ix3 0 i 1) - x3 (ix3 0 1 j)) := by
  unfold k1_pay6 k1_pay5; pointwise; rw [dx_apply, dy_apply]; rfl

theorem safe_apply (i : Fin 8) (j : Fin 104) : k1_pay8 (sx x2) (sy x2) (rx x3) (ry x3) (ix2 i j)
    = if 0 < Spec.len (x2 (ix3 0 i 0) - x3 (ix3 0 0 j)) (x2 (ix3 0 i 1) - x3 (ix3 0 1 j)) then 1#1 else 0#1 := by
  unfold k1_pay8 k1_pay7 k1_pay5; pointwise; rw [dx_apply, dy_apply]
  unfold Spec.len
  split_ifs with h <;> simp [h]

theorem len_apply (i : Fin 8) (j : Fin 104) : k1_pay9 (sx x2) (sy x2) (rx x3) (ry x3) (ix2 i j)
    = if 0 < Spec.len (x2 (ix3 0 i 0) - x3 (ix3 0 0 j)) (x2 (ix3 0 i 1) - x3 (ix3 0 1 j))
      then Spec.len (x2 (ix3 0 i 0) - x3 (ix3 0 0 j)) (x2 (ix3 0 i 1) - x3 (ix3 0 1 j)) else 1 := by
  unfold k1_pay9 k1_pay8 k1_pay7 k1_pay5; pointwise; rw [dx_apply, dy_apply]; rfl

theorem hid_apply (i : Fin 8) (j : Fin 104) (o : Fin 64) : k1_pay2 x0 x1 (ix3 i j o) = max (x0 (ix3 0 i o) + x1 (ix3 0 j o)) 0 := by
  pointwise [k1_pay2]

/-- The body's choice among directions is the hidden value of the position network. -/
theorem polar_select (p : Prop) [Decidable p] (d x y r a b e z : EReal) :
    max (d * a + Scalar.select (if p then 1#1 else 0#1) (Scalar.select (if p then 1#1 else 0#1) (x * r) 0) 1 * b
        + Scalar.select (if p then 1#1 else 0#1) (y * r * e) 0 + z) 0
      = max (d * a + (if p then x * r else 1) * b + (if p then y * r else 0) * e + z) 0 := by
  by_cases h : p <;> simp [h, Scalar.select]

set_option maxHeartbeats 4000000 in
/-- What one block of senders adds to receiver `j`: the sum over the block of the pairs' contributions. -/
theorem edgeBlock_apply (j : Fin 104) (o : Fin 64) : edgeBlock x0 x1 x2 x3 x4 x5 x6 x7 x8 x9 x10 (ix3 0 j o)
    = ∑ i : Fin 8, Spec.pair (fun q => x0 (ix3 0 i q)) (fun q => x1 (ix3 0 j q)) (x2 (ix3 0 i 0) - x3 (ix3 0 0 j)) (x2 (ix3 0 i 1) - x3 (ix3 0 1 j))
        (fun l m => x5 (ix2 l m)) (fun m => x6 (ix2 0 m)) (fun l m => x7 (ix2 l m)) (fun m => x8 (ix2 0 m))
        (fun q ch o => x9 (ix2 q (col ch o))) (fun ch o => x10 (ix2 0 (col ch o))) (fun ch => x4 (ix4 0 ch i j)) o := by
  unfold edgeBlock
  pointwise [k1_pay11, k1_pay10]
  refine Finset.sum_congr rfl fun i _ => ?_
  simp only [dx_apply, dy_apply, dist_apply, safe_apply, len_apply, hid_apply, polar_select]
  rfl

variable (V : (c : Dev nD) → (b : Ref sig .tc) → Buf (Elt Ideal) ((c.tc : Thread nD τ).loc b))

/-- The sum after the first block of senders is what that block adds. -/
theorem outsAt1_first (c : Dev nD) (t : Fin cfg1.N) (h0 : t.val % 13 = 0) : outsAt1 V c t.val t.isLt
    = edgeBlock (iblk1 V c 0 t) (iblk1 V c 1 t) (iblk1 V c 2 t) (iblk1 V c 3 t) (iblk1 V c 4 t) (iblk1 V c 5 t) (iblk1 V c 6 t) (iblk1 V c 7 t)
        (iblk1 V c 8 t) (iblk1 V c 9 t) (iblk1 V c 10 t) := by
  rw [outsAt1_A V c t h0 (by omega)]
  frame_out
  rfl

/-- The sum after a later block is the sum before it and what the block adds. -/
theorem outsAt1_next (c : Dev nD) (t : Fin cfg1.N) (h0 : ¬ t.val % 13 = 0) : outsAt1 V c t.val t.isLt
    = k1_pay1 (edgeBlock (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t)) (outsAt1 V c (t.val - 1) (Nat.lt_of_le_of_lt (Nat.sub_le _ _) t.isLt)) := by
  rw [outsAt1_B V c t h0 (by omega)]
  frame_out
  rfl

end Cert.KernelIdeal.Own
-- ==== Proof.Host.lean ====
module
public import proofs.«01_k».proof.Proof.Run
public import proofs.«01_k».proof.Proof.Layer
public import proofs.«01_k».proof.Proof.EdgeBody
public import Idealize.ShloMosaic.Lib.Pointwise
public import Idealize.ShloMosaic.Lib.Pipeline.ValueKit

/-! What the program's own operations between the regions leave in the operands of the regions. -/

@[expose] public section
set_option maxRecDepth 16384
noncomputable section
namespace Cert.KernelIdeal.Own
open Idealize.ShloMosaic Idealize.ShloMosaic.TcCoe Idealize.SL.Sem Cert.KernelIdeal Cert.KernelIdeal.Gen

/-- The weights a sender's features meet, as the program joins them. -/
theorem sendW_apply (W : Vec Ideal S56x64 .f32) (k : Fin 31) (o : Fin 64) :
    concatenate S31x64 0 [⟨S6x64, extractStridedSlice S6x64 ![18, 0] W slices_S56x64_S6x64_18_0⟩, ⟨S9x64, extractStridedSlice S9x64 ![9, 0] W slices_S56x64_S9x64_9_0⟩,
      ⟨S16x64, extractStridedSlice S16x64 ![40, 0] W slices_S56x64_S16x64_40_0⟩] concatenates_S6x64_S9x64_S16x64_S31x64_d0 (ix2 k o)
      = Spec.wsend (fun k o => W (ix2 k o)) k o := by
  fin_cases k <;> (pointwise; rfl)

/-- The weights a receiver's features meet, as the program joins them. -/
theorem recvW_apply (W : Vec Ideal S56x64 .f32) (k : Fin 31) (o : Fin 64) :
    concatenate S31x64 0 [⟨S6x64, Host.negf (extractStridedSlice S6x64 ![18, 0] W slices_S56x64_S6x64_18_0 : FVec Ideal S6x64 .f32)⟩, ⟨S9x64, extractStridedSlice S9x64 ![0, 0] W slices_S56x64_S9x64_0_0⟩,
      ⟨S16x64, extractStridedSlice S16x64 ![24, 0] W slices_S56x64_S16x64_24_0⟩] concatenates_S6x64_S9x64_S16x64_S31x64_d0 (ix2 k o)
      = Spec.wrecv (fun k o => W (ix2 k o)) k o := by
  fin_cases k <;> (pointwise; rfl)

/-- The message weights with the kinds moved apart. -/
theorem outW_apply (W : Vec Ideal S64x192 .f32) (q : Fin 64) (ch : Fin 3) (o : Fin 64) :
    shapeCast S64x192 (transpose S64x3x64 [0, 2, 1] (shapeCast S64x64x3 W shapeCasts_S64x192_S64x64x3) transposes_S64x64x3_S64x3x64_0_2_1)
      shapeCasts_S64x3x64_S64x192 (ix2 q (col ch o)) = W (ix2 q (Spec.src ch o)) := by
  fin_cases ch <;> (unfold col Spec.src; pointwise; exact congrArg (fun z => W (ix2 q z)) (Fin.ext (by simp only; have := o.isLt; omega)))

theorem outB_apply (W : Vec Ideal S192 .f32) (ch : Fin 3) (o : Fin 64) :
    shapeCast S1x192 (transpose S3x64 [1, 0] (shapeCast S64x3 W shapeCasts_S192_S64x3) transposes_S64x3_S3x64_1_0)
      shapeCasts_S3x64_S1x192 (ix2 0 (col ch o)) = W (ix1 (Spec.src ch o)) := by
  fin_cases ch <;> (unfold col Spec.src; pointwise; exact congrArg (fun z => W (ix1 z)) (Fin.ext (by simp only; have := o.isLt; omega)))

theorem edges_apply (e : Vec Ideal S64x9900x4 .f32) (b : Fin 64) (i : Fin 100) (k : Fin 99) (ch : Fin 4) :
    shapeCast S64x100x99x4 e shapeCasts_S64x9900x4_S64x100x99x4 (ix4 b i k ch) = e (ix3 b (Spec.edgeIx i k) ch) := by
  unfold Spec.edgeIx; pointwise

theorem row64_apply (v : Vec Ideal S64 .f32) (o : Fin 64) : shapeCast S1x64 v shapeCasts_S64_S1x64 (ix2 0 o) = v (ix1 o) := by
  pointwise

theorem row4_apply (v : Vec Ideal S4 .f32) (o : Fin 4) : shapeCast S1x4 v shapeCasts_S4_S1x4 (ix2 0 o) = v (ix1 o) := by
  pointwise

variable (m : (ℓ : Loc nD τ sig) → Buf (Elt Ideal) ℓ) (ρ : Dev nD → PrngReg) (c : Dev nD)

theorem v3_eq (k : Fin 31) (o : Fin 64) : V1 m ρ c main_v3 (ix2 k o) = Spec.wsend (fun k o => m ((c : Thread nD τ).loc main_arg7) (ix2 k o)) k o :=
  sendW_apply (m ((c : Thread nD τ).loc main_arg7)) k o

theorem v8_eq (k : Fin 31) (o : Fin 64) : V1 m ρ c main_v8 (ix2 k o) = Spec.wrecv (fun k o => m ((c : Thread nD τ).loc main_arg7) (ix2 k o)) k o :=
  recvW_apply (m ((c : Thread nD τ).loc main_arg7)) k o

theorem v11_eq (q : Fin 64) (ch : Fin 3) (o : Fin 64) : V1 m ρ c main_v11 (ix2 q (col ch o)) = m ((c : Thread nD τ).loc main_arg13) (ix2 q (Spec.src ch o)) :=
  outW_apply (m ((c : Thread nD τ).loc main_arg13)) q ch o

theorem v14_eq (ch : Fin 3) (o : Fin 64) : V1 m ρ c main_v14 (ix2 0 (col ch o)) = m ((c : Thread nD τ).loc main_arg14) (ix1 (Spec.src ch o)) :=
  outB_apply (m ((c : Thread nD τ).loc main_arg14)) ch o

theorem v15_eq (b : Fin 64) (i : Fin 100) (k : Fin 99) (ch : Fin 4) :
    V1 m ρ c main_v15 (ix4 b i k ch) = m ((c : Thread nD τ).loc main_arg2) (ix3 b (Spec.edgeIx i k) ch) :=
  edges_apply (m ((c : Thread nD τ).loc main_arg2)) b i k ch

theorem v16_eq (o : Fin 64) : V1 m ρ c main_v16 (ix2 0 o) = m ((c : Thread nD τ).loc main_arg8) (ix1 o) :=
  row64_apply (m ((c : Thread nD τ).loc main_arg8)) o

theorem v17_eq (o : Fin 64) : V1 m ρ c main_v17 (ix2 0 o) = m ((c : Thread nD τ).loc main_arg6) (ix1 o) :=
  row64_apply (m ((c : Thread nD τ).loc main_arg6)) o

theorem v19_eq (o : Fin 64) : V3 m ρ c main_v19 (ix2 0 o) = m ((c : Thread nD τ).loc main_arg10) (ix1 o) := by
  refine (row64_apply (W2 m ρ c (Proc.devRef .tc main_arg10)) o).trans ?_
  rw [W2_args m ρ c main_arg10 (by decide)]

theorem v20_eq (o : Fin 64) : V3 m ρ c main_v20 (ix2 0 o) = m ((c : Thread nD τ).loc main_arg12) (ix1 o) := by
  refine (row64_apply (W2 m ρ c (Proc.devRef .tc main_arg12)) o).trans ?_
  rw [W2_args m ρ c main_arg12 (by decide)]

theorem v22_eq (o : Fin 64) : V5 m ρ c main_v22 (ix2 0 o) = m ((c : Thread nD τ).loc main_arg16) (ix1 o) := by
  refine (row64_apply (W4 m ρ c (Proc.devRef .tc main_arg16)) o).trans ?_
  rw [W4_args m ρ c main_arg16 (by decide)]

theorem v23_eq (o : Fin 64) : V5 m ρ c main_v23 (ix2 0 o) = m ((c : Thread nD τ).loc main_arg18) (ix1 o) := by
  refine (row64_apply (W4 m ρ c (Proc.devRef .tc main_arg18)) o).trans ?_
  rw [W4_args m ρ c main_arg18 (by decide)]

theorem v24_eq (o : Fin 4) : V5 m ρ c main_v24 (ix2 0 o) = m ((c : Thread nD τ).loc main_arg20) (ix1 o) := by
  refine (row4_apply (W4 m ρ c (Proc.devRef .tc main_arg20)) o).trans ?_
  rw [W4_args m ρ c main_arg20 (by decide)]

end Cert.KernelIdeal.Own
-- ==== Proof.PrepFeat.lean ====
module
public import proofs.«01_k».proof.Proof.Prep
public import proofs.«01_k».proof.Proof.Spec
public import Idealize.ShloMosaic.Lib.Pointwise
public import Idealize.ShloMosaic.Lib.Pipeline.ValueKit

/-! The first body, element by element: the node features and what the body makes of them. -/

@[expose] public section
set_option maxRecDepth 16384
noncomputable section
namespace Cert.KernelIdeal.Own
open Idealize.ShloMosaic Idealize.SL.Sem Cert.KernelIdeal Cert.KernelIdeal.Gen

variable (x0 : Vec Ideal S1x100x4 .f32) (x1 : Vec Ideal S1x100x2 .f32) (x2 : Vec Ideal S1x100x16 .f32)

/-- The 31 features the body lays side by side, as the body computes them from its blocks. -/
def featBlock : FVec Ideal S100x31 .f32 :=
  k0_pay21 (k0_pay4 x2) (k0_pay5 x0) (k0_pay6 x0) (k0_pay7 x0) (k0_pay8 x0) (k0_pay9 x1) (k0_pay10 x1)
        (k0_pay14 x0) (k0_pay15 x0) (k0_pay16 x0) (k0_pay17 x0) (k0_pay18 x0) (k0_pay19 x0) (k0_pay20 x0)

variable (n : Fin 100)

theorem ce_apply (k : Fin 16) : k0_pay4 x2 (ix2 n k) = x2 (ix3 0 n k) := by pointwise [k0_pay4]

theorem px_apply : k0_pay5 x0 (ix2 n 0) = x0 (ix3 0 n 0) := by unfold k0_pay5 k0_pay2; pointwise

theorem py_apply : k0_pay6 x0 (ix2 n 0) = x0 (ix3 0 n 1) := by unfold k0_pay6 k0_pay2; pointwise

theorem vx_apply : k0_pay7 x0 (ix2 n 0) = x0 (ix3 0 n 2) := by unfold k0_pay7 k0_pay2; pointwise

theorem vy_apply : k0_pay8 x0 (ix2 n 0) = x0 (ix3 0 n 3) := by unfold k0_pay8 k0_pay2; pointwise

theorem fx_apply : k0_pay9 x1 (ix2 n 0) = x1 (ix3 0 n 0) := by unfold k0_pay9 k0_pay3; pointwise

theorem fy_apply : k0_pay10 x1 (ix2 n 0) = x1 (ix3 0 n 1) := by unfold k0_pay10 k0_pay3; pointwise

theorem c_apply : k0_pay14 x0 (ix2 n 0) = Spec.dirc (x0 (ix3 0 n 2)) (x0 (ix3 0 n 3)) := by
  unfold_payloads; pointwise; rfl

theorem s_apply : k0_pay15 x0 (ix2 n 0) = Spec.dirs (x0 (ix3 0 n 2)) (x0 (ix3 0 n 3)) := by
  unfold_payloads; pointwise; rfl

theorem lp0_apply : k0_pay16 x0 (ix2 n 0) = Spec.dirc (x0 (ix3 0 n 2)) (x0 (ix3 0 n 3)) * x0 (ix3 0 n 0)
    + Spec.dirs (x0 (ix3 0 n 2)) (x0 (ix3 0 n 3)) * x0 (ix3 0 n 1) := by
  unfold_payloads; pointwise; rfl

theorem lp1_apply : k0_pay17 x0 (ix2 n 0) = -Spec.dirs (x0 (ix3 0 n 2)) (x0 (ix3 0 n 3)) * x0 (ix3 0 n 0)
    + Spec.dirc (x0 (ix3 0 n 2)) (x0 (ix3 0 n 3)) * x0 (ix3 0 n 1) := by
  rw [← zero_sub (Spec.dirs _ _)]; unfold_payloads; pointwise; rfl

theorem lv0_apply : k0_pay18 x0 (ix2 n 0) = Spec.dirc (x0 (ix3 0 n 2)) (x0 (ix3 0 n 3)) * x0 (ix3 0 n 2)
    + Spec.dirs (x0 (ix3 0 n 2)) (x0 (ix3 0 n 3)) * x0 (ix3 0 n 3) := by
  unfold_payloads; pointwise; rfl

theorem lv1a_apply : k0_pay19 x0 (ix2 n 0) = -Spec.dirs (x0 (ix3 0 n 2)) (x0 (ix3 0 n 3)) * x0 (ix3 0 n 2) := by
  rw [← zero_sub (Spec.dirs _ _)]; unfold_payloads; pointwise; rfl

theorem lv1b_apply : k0_pay20 x0 (ix2 n 0) = Spec.dirc (x0 (ix3 0 n 2)) (x0 (ix3 0 n 3)) * x0 (ix3 0 n 3) := by
  unfold_payloads; pointwise; rfl

set_option maxHeartbeats 4000000 in
/-- Each feature the body computes is the feature of the node. -/
theorem featBlock_apply (k : Fin 31) : featBlock x0 x1 x2 (ix2 n k)
    = Spec.feat (fun k => x0 (ix3 0 n k)) (fun k => x1 (ix3 0 n k)) (fun k => x2 (ix3 0 n k)) k := by
  unfold featBlock
  fin_cases k <;> (pointwise [k0_pay21]; simp only [ce_apply, px_apply, py_apply, vx_apply, vy_apply, fx_apply, fy_apply, c_apply,
    s_apply, lp0_apply, lp1_apply, lv0_apply, lv1a_apply, lv1b_apply, zero_sub]; rfl)

/-- A product of the features with weights, padded with four zero rows. -/
theorem send_apply (w : Vec Ideal S31x64 .f32) (m : Fin 104) (o : Fin 64) :
    k0_pay26 (k0_pay22 (k0_pay4 x2) (k0_pay5 x0) (k0_pay6 x0) (k0_pay7 x0) (k0_pay8 x0) (k0_pay9 x1) (k0_pay10 x1)
        (k0_pay14 x0) (k0_pay15 x0) (k0_pay16 x0) (k0_pay17 x0) (k0_pay18 x0) (k0_pay19 x0) (k0_pay20 x0) w) (ix3 0 m o)
      = if h : m.val < 100 then ∑ k, featBlock x0 x1 x2 (ix2 ⟨m.val, h⟩ k) * w (ix2 k o) else 0 := by
  pointwise [k0_pay26, k0_pay22]
  split <;> simp [featBlock]

theorem recv_apply (w : Vec Ideal S31x64 .f32) (b : Vec Ideal S1x64 .f32) (m : Fin 104) (o : Fin 64) :
    k0_pay27 (k0_pay23 (k0_pay4 x2) (k0_pay5 x0) (k0_pay6 x0) (k0_pay7 x0) (k0_pay8 x0) (k0_pay9 x1) (k0_pay10 x1)
        (k0_pay14 x0) (k0_pay15 x0) (k0_pay16 x0) (k0_pay17 x0) (k0_pay18 x0) (k0_pay19 x0) (k0_pay20 x0) w b) (ix3 0 m o)
      = if h : m.val < 100 then ∑ k, featBlock x0 x1 x2 (ix2 ⟨m.val, h⟩ k) * w (ix2 k o) + b (ix2 0 o) else 0 := by
  pointwise [k0_pay27, k0_pay23]
  split <;> simp [featBlock]

theorem res_apply (w : Vec Ideal S31x64 .f32) (b : Vec Ideal S1x64 .f32) (m : Fin 104) (o : Fin 64) :
    k0_pay28 (k0_pay24 (k0_pay4 x2) (k0_pay5 x0) (k0_pay6 x0) (k0_pay7 x0) (k0_pay8 x0) (k0_pay9 x1) (k0_pay10 x1)
        (k0_pay14 x0) (k0_pay15 x0) (k0_pay16 x0) (k0_pay17 x0) (k0_pay18 x0) (k0_pay19 x0) (k0_pay20 x0) w) (k0_pay25 b) (ix3 0 m o)
      = if h : m.val < 100 then ∑ k, featBlock x0 x1 x2 (ix2 ⟨m.val, h⟩ k) * w (ix2 k o) + b (ix2 0 o) else 0 := by
  pointwise [k0_pay28, k0_pay24, k0_pay25]
  split <;> simp [featBlock]

/-- The padded positions, one row per node. -/
theorem pos_apply (m : Fin 104) (k : Fin 2) : k0_pay30 (k0_pay5 x0) (k0_pay6 x0) (ix3 0 m k)
    = if h : m.val < 100 then x0 (ix3 0 ⟨m.val, h⟩ ⟨k.val, by omega⟩) else 0 := by
  fin_cases k <;> (pointwise [k0_pay30, k0_pay29]; split <;> simp [px_apply, py_apply]; try rfl)

/-- The padded positions, one column per node. -/
theorem posT_apply (m : Fin 104) (k : Fin 2) : k0_pay31 (k0_pay5 x0) (k0_pay6 x0) (ix3 0 k m)
    = if h : m.val < 100 then x0 (ix3 0 ⟨m.val, h⟩ ⟨k.val, by omega⟩) else 0 := by
  fin_cases k <;> (pointwise [k0_pay31, k0_pay29]; split <;> simp [px_apply, py_apply]; try rfl)

end Cert.KernelIdeal.Own
-- ==== Proof.Gates.lean ====
module
public import proofs.«01_k».proof.Proof.Prep
public import proofs.«01_k».proof.Proof.Spec
public import Idealize.ShloMosaic.Lib.Pointwise
public import Idealize.ShloMosaic.Lib.Pipeline.ValueKit

/-! The first body's edge weights, one square table per kind of edge. -/

@[expose] public section
set_option maxRecDepth 16384
noncomputable section
namespace Cert.KernelIdeal.Own
open Idealize.ShloMosaic Idealize.SL.Sem Cert.KernelIdeal Cert.KernelIdeal.Gen

/-- The weight of the edge from node `i` to node `j`, read from the list of the other nodes of `i`; zero where there is no edge. -/
def gate (e : Fin 100 → Fin 99 → EReal) (i j : Fin 104) : EReal :=
  if hi : i.val < 100 then
    if hj : j.val < i.val then e ⟨i.val, hi⟩ ⟨j.val, by omega⟩
    else if hj : i.val < j.val ∧ j.val < 100 then e ⟨i.val, hi⟩ ⟨j.val - 1, by omega⟩ else 0
  else 0

theorem slt_word : ∀ i j : Fin 104, IntOp.cmpi .slt (BitVec.ofNat 32 j.val) (BitVec.ofNat 32 i.val) = if j.val < i.val then 1#1 else 0#1 := by
  decide +kernel

theorem sgt_word : ∀ i j : Fin 104, IntOp.cmpi .sgt (BitVec.ofNat 32 j.val) (BitVec.ofNat 32 i.val) = if i.val < j.val then 1#1 else 0#1 := by
  decide +kernel

/-- The body's selection among the list, the list moved by one, and zero, is the weight of the edge. -/
theorem gate_select (e : Fin 100 → Fin 99 → EReal) (z : EReal) (hz : z = 0) (i j : Fin 104) :
    (if hi : i.val < 100 then
      Scalar.select (IntOp.cmpi CmpIPredicate.slt (BitVec.ofNat 32 j.val) (BitVec.ofNat 32 i.val))
        (if h_1 : j.val < 99 then e ⟨i.val, hi⟩ ⟨j.val, h_1⟩ else z)
        (Scalar.select (IntOp.cmpi CmpIPredicate.sgt (BitVec.ofNat 32 j.val) (BitVec.ofNat 32 i.val))
          (if _hj : j.val < 1 then 0 else if h_1 : j.val - 1 < 99 then e ⟨i.val, hi⟩ ⟨j.val - 1, h_1⟩ else z) 0)
    else z) = gate e i j := by
  subst hz
  rw [slt_word, sgt_word]
  unfold gate Scalar.select
  split_ifs <;> first | rfl | (exfalso; omega) | simp_all

theorem gate0_apply (v : Vec Ideal S1x100x99x4 .f32) (i j : Fin 104) :
    k0_pay35 (iota .tc S100x104 32 [0] iota_S100x104_d0_w32) (iota .tc S100x104 32 [1] iota_S100x104_d1_w32) k0_pay33 (k0_pay34 v) (ix4 0 0 i j)
      = gate (fun a b => v (ix4 0 a b 1)) i j := by
  unfold_payloads; pointwise [iota]
  exact gate_select (fun a b => v (ix4 0 a b 1)) _ (by simp) i j

theorem gate1_apply (v : Vec Ideal S1x100x99x4 .f32) (i j : Fin 104) :
    k0_pay36 (k0_pay32 v) (iota .tc S100x104 32 [0] iota_S100x104_d0_w32) (iota .tc S100x104 32 [1] iota_S100x104_d1_w32) k0_pay33 (ix4 0 0 i j)
      = gate (fun a b => v (ix4 0 a b 2)) i j := by
  unfold_payloads; pointwise [iota]
  exact gate_select (fun a b => v (ix4 0 a b 2)) _ (by simp) i j

theorem gate2_apply (v : Vec Ideal S1x100x99x4 .f32) (i j : Fin 104) :
    k0_pay1 (iota .tc S100x104 32 [0] iota_S100x104_d0_w32) (iota .tc S100x104 32 [1] iota_S100x104_d1_w32) (k0_pay37 (k0_pay32 v))
      (k0_pay38 (k0_pay32 v) k0_pay33) (k0_pay39 (iota .tc S100x104 32 [0] iota_S100x104_d0_w32) (iota .tc S100x104 32 [1] iota_S100x104_d1_w32)) (ix4 0 0 i j)
      = gate (fun a b => v (ix4 0 a b 3)) i j := by
  unfold_payloads; pointwise [iota]
  exact gate_select (fun a b => v (ix4 0 a b 3)) _ (by simp) i j

end Cert.KernelIdeal.Own
-- ==== Proof.PrepValue.lean ====
module
public import proofs.«01_k».proof.Proof.PrepFeat
public import proofs.«01_k».proof.Proof.Gates

/-! What the first region leaves in its six output arrays, element by element. -/

@[expose] public section
set_option maxRecDepth 16384
noncomputable section
namespace Cert.KernelIdeal.Own
open Idealize.ShloMosaic Idealize.SL.Sem Cert.KernelIdeal Cert.KernelIdeal.Gen

/-- The features of node `n` of graph `b`, from the arrays that hold its state, its field and its charge. -/
def nodeFeat (x : Vec Ideal S64x100x4 .f32) (fl : Vec Ideal S64x100x2 .f32) (ce : Vec Ideal S64x100x16 .f32) (b : Fin 64) (n : Fin 100) : Fin 31 → EReal :=
  Spec.feat (fun k => x (ix3 b n k)) (fun k => fl (ix3 b n k)) (fun k => ce (ix3 b n k))

/-- Features times weights, zero on the four padding rows. -/
def sendOut (x : Vec Ideal S64x100x4 .f32) (fl : Vec Ideal S64x100x2 .f32) (ce : Vec Ideal S64x100x16 .f32) (w : Vec Ideal S31x64 .f32)
    (i : S64x104x64.Idx) : EReal :=
  let b : Fin 64 := i 0
  let n : Fin 104 := i 1
  let o : Fin 64 := i 2
  if h : n.val < 100 then ∑ k, nodeFeat x fl ce b ⟨n.val, h⟩ k * w (ix2 k o) else 0

/-- Features times weights plus a bias, zero on the four padding rows. -/
def biasOut (x : Vec Ideal S64x100x4 .f32) (fl : Vec Ideal S64x100x2 .f32) (ce : Vec Ideal S64x100x16 .f32) (w : Vec Ideal S31x64 .f32)
    (z : Vec Ideal S1x64 .f32) (i : S64x104x64.Idx) : EReal :=
  let b : Fin 64 := i 0
  let n : Fin 104 := i 1
  let o : Fin 64 := i 2
  if h : n.val < 100 then ∑ k, nodeFeat x fl ce b ⟨n.val, h⟩ k * w (ix2 k o) + z (ix2 0 o) else 0

/-- Coordinate `k` of the position of row `n` of graph `b`, zero on the padding rows. -/
def posAt (x : Vec Ideal S64x100x4 .f32) (b : Fin 64) (n : Fin 104) (k : Fin 2) : EReal :=
  if h : n.val < 100 then x (ix3 b ⟨n.val, h⟩ ⟨k.val, by omega⟩) else 0

def posOut (x : Vec Ideal S64x100x4 .f32) (i : S64x104x2.Idx) : EReal := posAt x (i 0) (i 1) (i 2)

def posTOut (x : Vec Ideal S64x100x4 .f32) (i : S64x2x104.Idx) : EReal := posAt x (i 0) (i 2) (i 1)

def gateOut (e : Vec Ideal S64x100x99x4 .f32) (i : S64x3x104x104.Idx) : EReal :=
  let b : Fin 64 := i 0
  let ch : Fin 3 := i 1
  gate (fun m k => e (ix4 b m k (⟨ch.val + 1, by omega⟩ : Fin 4))) (i 2) (i 3)

variable (V : (c : Dev nD) → (b : Ref sig .tc) → Buf (Elt Ideal) ((c.tc : Thread nD τ).loc b))

/-- Where the first region's blocks lie: graph `t` of each array with one entry per graph, the whole of each weight. -/
theorem idx0 : ∀ t : Fin cfg0.N, ((cfg0.win 0).index t = ![t.val, 0, 0] ∧ (cfg0.win 1).index t = ![t.val, 0, 0]) ∧ (cfg0.win 2).index t = ![t.val, 0, 0]
    ∧ (cfg0.win 3).index t = ![t.val, 0, 0, 0] ∧ (cfg0.win 4).index t = ![0, 0] ∧ (cfg0.win 5).index t = ![0, 0] ∧ (cfg0.win 6).index t = ![0, 0]
    ∧ (cfg0.win 7).index t = ![0, 0] ∧ (cfg0.win 8).index t = ![0, 0] := by decide +kernel

theorem idx0_out : ∀ t : Fin cfg0.N, ((cfg0.win 9).index t = ![t.val, 0, 0] ∧ (cfg0.win 10).index t = ![t.val, 0, 0]) ∧ (cfg0.win 11).index t = ![t.val, 0, 0]
    ∧ (cfg0.win 12).index t = ![t.val, 0, 0] ∧ (cfg0.win 13).index t = ![t.val, 0, 0] ∧ (cfg0.win 14).index t = ![t.val, 0, 0, 0] := by decide +kernel

/-- The features of a block's node are the features of the node of graph `t`. -/
theorem feat_blk (c : Dev nD) (t : Fin cfg0.N) (n : Fin 100) (k : Fin 31) : featBlock (iblk0 V c 0 t) (iblk0 V c 1 t) (iblk0 V c 2 t) (ix2 n k)
    = nodeFeat (V c main_arg0) (V c main_arg3) (V c main_arg4) (⟨t.val, t.isLt⟩ : Fin 64) n k := by
  obtain ⟨⟨i0, i1⟩, i2, -⟩ := idx0 t
  have g0 : ∀ k, iblk0 V c 0 t (ix3 0 n k) = V c main_arg0 (ix3 (⟨t.val, t.isLt⟩ : Fin 64) n k) := fun k => by blk_ext [iblk0, i0]
  have g1 : ∀ k, iblk0 V c 1 t (ix3 0 n k) = V c main_arg3 (ix3 (⟨t.val, t.isLt⟩ : Fin 64) n k) := fun k => by blk_ext [iblk0, i1]
  have g2 : ∀ k, iblk0 V c 2 t (ix3 0 n k) = V c main_arg4 (ix3 (⟨t.val, t.isLt⟩ : Fin 64) n k) := fun k => by blk_ext [iblk0, i2]
  rw [featBlock_apply]
  simp only [g0, g1, g2]
  rfl

set_option maxHeartbeats 4000000 in
/-- What each node brings as a sender. -/
theorem send_array (c : Dev nD) : (dat0 V c).arrAt 9 cfg0.N = sendOut (V c main_arg0) (V c main_arg3) (V c main_arg4) (V c main_v3) := by
  refine (dat0 V c).arrAt_eq_of_covers 9 _ (by decide +kernel) fun t hf y => ?_
  blk_simp
  rw [after0_9]
  unfold out0_9 k0_pay40 k0_pay41 k0_pay42 k0_pay43 k0_pay44 k0_pay45 k0_pay46 k0_pay47 k0_pay48 k0_pay49 k0_pay50 k0_pay51 k0_pay52 k0_pay53
  frame_out
  idx_vars y
  obtain rfl : y0 = 0 := Subsingleton.elim _ _
  obtain ⟨-, -, -, i4, -⟩ := idx0 t
  obtain ⟨⟨i9, -⟩, -⟩ := idx0_out t
  have e : ((cfg0.win 9).blk t).view.emb (ix3 0 y1 y2) = ix3 (⟨t.val, t.isLt⟩ : Fin 64) y1 y2 := by blk_ext [i9]
  rw [show ((View.whole main_v18_0).slice (win0_9.rect t)).emb (ix3 0 y1 y2) = _ from e]
  have g : ∀ l m, iblk0 V c 4 t (ix2 l m) = V c main_v3 (ix2 l m) := fun l m => by blk_ext [iblk0, i4]
  rw [send_apply]
  simp only [feat_blk, g]
  rfl

set_option maxHeartbeats 4000000 in
/-- What each node brings as a receiver. -/
theorem recv_array (c : Dev nD) : (dat0 V c).arrAt 10 cfg0.N
    = biasOut (V c main_arg0) (V c main_arg3) (V c main_arg4) (V c main_v8) (V c main_v16) := by
  refine (dat0 V c).arrAt_eq_of_covers 10 _ (by decide +kernel) fun t hf y => ?_
  blk_simp
  rw [after0_10]
  unfold out0_10 k0_pay40 k0_pay41 k0_pay42 k0_pay43 k0_pay44 k0_pay45 k0_pay46 k0_pay47 k0_pay48 k0_pay49 k0_pay50 k0_pay51 k0_pay52 k0_pay53
  frame_out
  idx_vars y
  obtain rfl : y0 = 0 := Subsingleton.elim _ _
  obtain ⟨-, -, -, -, i5, -, i7, -⟩ := idx0 t
  obtain ⟨⟨-, i10⟩, -⟩ := idx0_out t
  have e : ((cfg0.win 10).blk t).view.emb (ix3 0 y1 y2) = ix3 (⟨t.val, t.isLt⟩ : Fin 64) y1 y2 := by blk_ext [i10]
  rw [show ((View.whole main_v18_1).slice (win0_10.rect t)).emb (ix3 0 y1 y2) = _ from e]
  have g : ∀ l m, iblk0 V c 5 t (ix2 l m) = V c main_v8 (ix2 l m) := fun l m => by blk_ext [iblk0, i5]
  have g' : ∀ m, iblk0 V c 7 t (ix2 0 m) = V c main_v16 (ix2 0 m) := fun m => by blk_ext [iblk0, i7]
  rw [recv_apply]
  simp only [feat_blk, g, g']
  rfl

set_option maxHeartbeats 4000000 in
/-- Each node's own contribution. -/
theorem res_array (c : Dev nD) : (dat0 V c).arrAt 11 cfg0.N
    = biasOut (V c main_arg0) (V c main_arg3) (V c main_arg4) (V c main_arg5) (V c main_v17) := by
  refine (dat0 V c).arrAt_eq_of_covers 11 _ (by decide +kernel) fun t hf y => ?_
  blk_simp
  rw [after0_11]
  unfold out0_11 k0_pay40 k0_pay41 k0_pay42 k0_pay43 k0_pay44 k0_pay45 k0_pay46 k0_pay47 k0_pay48 k0_pay49 k0_pay50 k0_pay51 k0_pay52 k0_pay53
  frame_out
  idx_vars y
  obtain rfl : y0 = 0 := Subsingleton.elim _ _
  obtain ⟨-, -, -, -, -, i6, -, i8⟩ := idx0 t
  obtain ⟨-, i11, -⟩ := idx0_out t
  have e : ((cfg0.win 11).blk t).view.emb (ix3 0 y1 y2) = ix3 (⟨t.val, t.isLt⟩ : Fin 64) y1 y2 := by blk_ext [i11]
  rw [show ((View.whole main_v18_2).slice (win0_11.rect t)).emb (ix3 0 y1 y2) = _ from e]
  have g : ∀ l m, iblk0 V c 6 t (ix2 l m) = V c main_arg5 (ix2 l m) := fun l m => by blk_ext [iblk0, i6]
  have g' : ∀ m, iblk0 V c 8 t (ix2 0 m) = V c main_v17 (ix2 0 m) := fun m => by blk_ext [iblk0, i8]
  rw [res_apply]
  simp only [feat_blk, g, g']
  rfl

/-- A block's state is the state of graph `t`. -/
theorem state_blk (c : Dev nD) (t : Fin cfg0.N) (n : Fin 100) (k : Fin 4) : iblk0 V c 0 t (ix3 0 n k) = V c main_arg0 (ix3 (⟨t.val, t.isLt⟩ : Fin 64) n k) := by
  obtain ⟨⟨i0, -⟩, -⟩ := idx0 t
  blk_ext [iblk0, i0]

set_option maxHeartbeats 4000000 in
/-- The positions, one row per node. -/
theorem pos_array (c : Dev nD) : (dat0 V c).arrAt 12 cfg0.N = posOut (V c main_arg0) := by
  refine (dat0 V c).arrAt_eq_of_covers 12 _ (by decide +kernel) fun t hf y => ?_
  blk_simp
  rw [after0_12]
  unfold out0_12 k0_pay41 k0_pay42
  frame_out
  idx_vars y
  obtain rfl : y0 = 0 := Subsingleton.elim _ _
  obtain ⟨-, -, i12, -⟩ := idx0_out t
  have e : ((cfg0.win 12).blk t).view.emb (ix3 0 y1 y2) = ix3 (⟨t.val, t.isLt⟩ : Fin 64) y1 y2 := by blk_ext [i12]
  rw [show ((View.whole main_v18_3).slice (win0_12.rect t)).emb (ix3 0 y1 y2) = _ from e]
  rw [pos_apply]
  simp only [state_blk]
  rfl

set_option maxHeartbeats 4000000 in
/-- The positions, one column per node. -/
theorem posT_array (c : Dev nD) : (dat0 V c).arrAt 13 cfg0.N = posTOut (V c main_arg0) := by
  refine (dat0 V c).arrAt_eq_of_covers 13 _ (by decide +kernel) fun t hf y => ?_
  blk_simp
  rw [after0_13]
  unfold out0_13 k0_pay41 k0_pay42
  frame_out
  idx_vars y
  obtain rfl : y0 = 0 := Subsingleton.elim _ _
  obtain ⟨-, -, -, i13, -⟩ := idx0_out t
  have e : ((cfg0.win 13).blk t).view.emb (ix3 0 y1 y2) = ix3 (⟨t.val, t.isLt⟩ : Fin 64) y1 y2 := by blk_ext [i13]
  rw [show ((View.whole main_v18_4).slice (win0_13.rect t)).emb (ix3 0 y1 y2) = _ from e]
  rw [posT_apply]
  simp only [state_blk]
  rfl

end Cert.KernelIdeal.Own
-- ==== Proof.GateArray.lean ====
module
public import proofs.«01_k».proof.Proof.PrepValue

/-! The first region's array of edge weights. -/

@[expose] public section
set_option maxRecDepth 16384
noncomputable section
namespace Cert.KernelIdeal.Own
open Idealize.ShloMosaic Idealize.SL.Sem Cert.KernelIdeal Cert.KernelIdeal.Gen
variable (V : (c : Dev nD) → (b : Ref sig .tc) → Buf (Elt Ideal) ((c.tc : Thread nD τ).loc b))

/-- One graph's edge weights, from the block that holds its list of edges. -/
def gateBlk (v : Vec Ideal S1x100x99x4 .f32) (i : S1x3x104x104.Idx) : EReal :=
  let ch : Fin 3 := i 1
  gate (fun m k => v (ix4 0 m k (⟨ch.val + 1, by omega⟩ : Fin 4))) (i 2) (i 3)

theorem emb_r0_9 (i j : Fin 104) : r0_9.emb (ix4 (0 : Fin 1) (0 : Fin 1) i j) = ix4 (0 : Fin 1) (0 : Fin 3) i j := by blk_ext
theorem emb_r0_10 (i j : Fin 104) : r0_10.emb (ix4 (0 : Fin 1) (0 : Fin 1) i j) = ix4 (0 : Fin 1) (1 : Fin 3) i j := by blk_ext
theorem emb_r0_11 (i j : Fin 104) : r0_11.emb (ix4 (0 : Fin 1) (0 : Fin 1) i j) = ix4 (0 : Fin 1) (2 : Fin 3) i j := by blk_ext

/-- The three stores together leave one table of weights for each kind of edge. -/
theorem gates_canon (v : Vec Ideal S1x100x99x4 .f32) (p0 p1 p2 : FVec Ideal S1x1x104x104 .f32)
    (h0 : ∀ i j, p0 (ix4 0 0 i j) = gate (fun a b => v (ix4 0 a b 1)) i j) (h1 : ∀ i j, p1 (ix4 0 0 i j) = gate (fun a b => v (ix4 0 a b 2)) i j)
    (h2 : ∀ i j, p2 (ix4 0 0 i j) = gate (fun a b => v (ix4 0 a b 3)) i j) (y : S1x3x104x104.Idx) :
    View.canon (Val := Elt Ideal) (e := .f32) [⟨r0_11, p2⟩, ⟨r0_10, p1⟩, ⟨r0_9, p0⟩] y = gateBlk v y := by
  have k0 : ∀ x : S1x1x104x104.Idx, p0 x = gateBlk v (r0_9.emb x) := fun x => by
    idx_vars x
    obtain rfl : x0 = 0 := Subsingleton.elim _ _
    obtain rfl : x1 = 0 := Subsingleton.elim _ _
    rw [h0, emb_r0_9]; rfl
  have k1 : ∀ x : S1x1x104x104.Idx, p1 x = gateBlk v (r0_10.emb x) := fun x => by
    idx_vars x
    obtain rfl : x0 = 0 := Subsingleton.elim _ _
    obtain rfl : x1 = 0 := Subsingleton.elim _ _
    rw [h1, emb_r0_10]; rfl
  have k2 : ∀ x : S1x1x104x104.Idx, p2 x = gateBlk v (r0_11.emb x) := fun x => by
    idx_vars x
    obtain rfl : x0 = 0 := Subsingleton.elim _ _
    obtain rfl : x1 = 0 := Subsingleton.elim _ _
    rw [h2, emb_r0_11]; rfl
  refine View.canon_apply_of_pieces (gateBlk v) _ (fun p hp x => ?_) y (cover0_14 (F := Ideal) p2 p1 p0 y)
  rcases List.mem_cons.1 hp with rfl | hp
  · exact k2 x
  rcases List.mem_cons.1 hp with rfl | hp
  · exact k1 x
  · obtain rfl := List.mem_singleton.1 hp
    exact k0 x

set_option maxHeartbeats 4000000 in
theorem gate_array (c : Dev nD) : (dat0 V c).arrAt 14 cfg0.N = gateOut (V c main_v15) := by
  refine (dat0 V c).arrAt_eq_of_covers 14 _ (by decide +kernel) fun t hf y => ?_
  blk_simp
  rw [after0_14]
  unfold out0_14 k0_pay54 k0_pay55 k0_pay56 k0_pay57
  rw [gates_canon (iblk0 V c 3 t) _ _ _ (fun i j => ?_) (fun i j => ?_) (fun i j => ?_) y]
  · idx_vars y
    obtain rfl : y0 = 0 := Subsingleton.elim _ _
    obtain ⟨-, -, i3, -⟩ := idx0 t
    obtain ⟨-, -, -, -, i14⟩ := idx0_out t
    have e : ((cfg0.win 14).blk t).view.emb (ix4 0 y1 y2 y3) = ix4 (⟨t.val, t.isLt⟩ : Fin 64) y1 y2 y3 := by blk_ext [i14]
    rw [show ((View.whole main_v18_5).slice (win0_14.rect t)).emb (ix4 0 y1 y2 y3) = _ from e]
    have g : ∀ a b k, iblk0 V c 3 t (ix4 0 a b k) = V c main_v15 (ix4 (⟨t.val, t.isLt⟩ : Fin 64) a b k) := fun a b k => by blk_ext [iblk0, i3]
    show gate (fun m k => iblk0 V c 3 t (ix4 0 m k _)) _ _ = _
    simp only [g]
    rfl
  · frame_out
    exact gate0_apply _ i j
  · frame_out
    exact gate1_apply _ i j
  · frame_out
    exact gate2_apply _ i j

end Cert.KernelIdeal.Own
-- ==== Proof.EdgeValue.lean ====
module
public import proofs.«01_k».proof.Proof.EdgeBody

/-! What the second region leaves in its output array, element by element. -/

@[expose] public section
set_option maxRecDepth 16384
noncomputable section
namespace Cert.KernelIdeal.Own
open Idealize.ShloMosaic Idealize.SL.Sem Cert.KernelIdeal Cert.KernelIdeal.Gen

/-- What sender row `i` adds to receiver row `j` of graph `b`, from the arrays the region reads. -/
def pairAt (sa ar : Vec Ideal S64x104x64 .f32) (ps : Vec Ideal S64x104x2 .f32) (pt : Vec Ideal S64x2x104 .f32) (g : Vec Ideal S64x3x104x104 .f32)
    (w1 : Vec Ideal S3x64 .f32) (b1 : Vec Ideal S1x64 .f32) (w2 : Vec Ideal S64x64 .f32) (b2 : Vec Ideal S1x64 .f32) (wo : Vec Ideal S64x192 .f32)
    (bo : Vec Ideal S1x192 .f32) (b : Fin 64) (i j : Fin 104) (o : Fin 64) : EReal :=
  Spec.pair (fun q => sa (ix3 b i q)) (fun q => ar (ix3 b j q)) (ps (ix3 b i 0) - pt (ix3 b 0 j)) (ps (ix3 b i 1) - pt (ix3 b 1 j))
    (fun l m => w1 (ix2 l m)) (fun m => b1 (ix2 0 m)) (fun l m => w2 (ix2 l m)) (fun m => b2 (ix2 0 m))
    (fun q ch o => wo (ix2 q (col ch o))) (fun ch o => bo (ix2 0 (col ch o))) (fun ch => g (ix4 b ch i j)) o

/-- Row `r` of block `s` of the senders. -/
def row (s : Fin 13) (r : Fin 8) : Fin 104 := ⟨8 * s.val + r.val, by omega⟩

/-- The second region's result as a function of the arrays it reads. -/
def edgeOut (sa ar : Vec Ideal S64x104x64 .f32) (ps : Vec Ideal S64x104x2 .f32) (pt : Vec Ideal S64x2x104 .f32) (g : Vec Ideal S64x3x104x104 .f32)
    (w1 : Vec Ideal S3x64 .f32) (b1 : Vec Ideal S1x64 .f32) (w2 : Vec Ideal S64x64 .f32) (b2 : Vec Ideal S1x64 .f32) (wo : Vec Ideal S64x192 .f32)
    (bo : Vec Ideal S1x192 .f32) (i : S64x104x64.Idx) : EReal :=
  ∑ s : Fin 13, ∑ r : Fin 8, pairAt sa ar ps pt g w1 b1 w2 b2 wo bo (i 0) (row s r) (i 1) (i 2)

variable (V : (c : Dev nD) → (b : Ref sig .tc) → Buf (Elt Ideal) ((c.tc : Thread nD τ).loc b))

theorem idx1_in : ∀ t : Fin cfg1.N, ((cfg1.win 0).index t = ![t.val / 13, t.val % 13, 0] ∧ (cfg1.win 1).index t = ![t.val / 13, 0, 0])
    ∧ (cfg1.win 2).index t = ![t.val / 13, t.val % 13, 0] ∧ (cfg1.win 3).index t = ![t.val / 13, 0, 0]
    ∧ (cfg1.win 4).index t = ![t.val / 13, 0, t.val % 13, 0] ∧ (cfg1.win 11).index t = ![t.val / 13, 0, 0] := by decide +kernel

theorem idx1_w : ∀ t : Fin cfg1.N, (cfg1.win 5).index t = ![0, 0] ∧ (cfg1.win 6).index t = ![0, 0] ∧ (cfg1.win 7).index t = ![0, 0]
    ∧ (cfg1.win 8).index t = ![0, 0] ∧ (cfg1.win 9).index t = ![0, 0] ∧ (cfg1.win 10).index t = ![0, 0] := by decide +kernel

/-- The graph and the block of senders of a point. -/
def gr (t : Fin cfg1.N) : Fin 64 := ⟨t.val / 13, by have h : t.val < 832 := lt_of_lt_of_eq t.isLt N_1; omega⟩
def sb (t : Fin cfg1.N) : Fin 13 := ⟨t.val % 13, by omega⟩

set_option maxHeartbeats 4000000 in
/-- What a point adds, from the arrays. -/
theorem block_pairs (c : Dev nD) (t : Fin cfg1.N) (j : Fin 104) (o : Fin 64) :
    edgeBlock (iblk1 V c 0 t) (iblk1 V c 1 t) (iblk1 V c 2 t) (iblk1 V c 3 t) (iblk1 V c 4 t) (iblk1 V c 5 t) (iblk1 V c 6 t) (iblk1 V c 7 t)
        (iblk1 V c 8 t) (iblk1 V c 9 t) (iblk1 V c 10 t) (ix3 0 j o)
      = ∑ r : Fin 8, pairAt (V c main_v18_0) (V c main_v18_1) (V c main_v18_3) (V c main_v18_4) (V c main_v18_5) (V c main_arg9) (V c main_v19)
          (V c main_arg11) (V c main_v20) (V c main_v11) (V c main_v14) (gr t) (row (sb t) r) j o := by
  obtain ⟨⟨i0, i1⟩, i2, i3, i4, -⟩ := idx1_in t
  obtain ⟨i5, i6, i7, i8, i9, i10⟩ := idx1_w t
  have g0 : ∀ r q, iblk1 V c 0 t (ix3 0 r q) = V c main_v18_0 (ix3 (gr t) (row (sb t) r) q) := fun r q => by unfold gr sb row; blk_ext [iblk1, i0]
  have g1 : ∀ q, iblk1 V c 1 t (ix3 0 j q) = V c main_v18_1 (ix3 (gr t) j q) := fun q => by unfold gr; blk_ext [iblk1, i1]
  have g2 : ∀ r k, iblk1 V c 2 t (ix3 0 r k) = V c main_v18_3 (ix3 (gr t) (row (sb t) r) k) := fun r k => by unfold gr sb row; blk_ext [iblk1, i2]
  have g3 : ∀ k, iblk1 V c 3 t (ix3 0 k j) = V c main_v18_4 (ix3 (gr t) k j) := fun k => by unfold gr; blk_ext [iblk1, i3]
  have g4 : ∀ k r, iblk1 V c 4 t (ix4 0 k r j) = V c main_v18_5 (ix4 (gr t) k (row (sb t) r) j) := fun k r => by unfold gr sb row; blk_ext [iblk1, i4]
  have g5 : ∀ l m, iblk1 V c 5 t (ix2 l m) = V c main_arg9 (ix2 l m) := fun l m => by blk_ext [iblk1, i5]
  have g6 : ∀ m, iblk1 V c 6 t (ix2 0 m) = V c main_v19 (ix2 0 m) := fun m => by blk_ext [iblk1, i6]
  have g7 : ∀ l m, iblk1 V c 7 t (ix2 l m) = V c main_arg11 (ix2 l m) := fun l m => by blk_ext [iblk1, i7]
  have g8 : ∀ m, iblk1 V c 8 t (ix2 0 m) = V c main_v20 (ix2 0 m) := fun m => by blk_ext [iblk1, i8]
  have g9 : ∀ l m, iblk1 V c 9 t (ix2 l m) = V c main_v11 (ix2 l m) := fun l m => by blk_ext [iblk1, i9]
  have g10 : ∀ m, iblk1 V c 10 t (ix2 0 m) = V c main_v14 (ix2 0 m) := fun m => by blk_ext [iblk1, i10]
  rw [edgeBlock_apply]
  simp only [g0, g1, g2, g3, g4, g5, g6, g7, g8, g9, g10]
  rfl

/-- A later sum reads the sum before it and what the block adds. -/
theorem step_apply (a b : FVec Ideal S1x104x64 .f32) (i : S1x104x64.Idx) : k1_pay1 a b i = b i + a i := by
  idx_vars i
  pointwise [k1_pay1]

/-- The sum a point leaves: what the points of its graph up to it add. -/
theorem outs_sum (c : Dev nD) (t : Fin cfg1.N) (hf : t.val % 13 = 12) (j : Fin 104) (o : Fin 64) : outsAt1 V c t.val t.isLt (ix3 0 j o)
    = ∑ s : Fin 13, ∑ r : Fin 8, pairAt (V c main_v18_0) (V c main_v18_1) (V c main_v18_3) (V c main_v18_4) (V c main_v18_5) (V c main_arg9) (V c main_v19)
          (V c main_arg11) (V c main_v20) (V c main_v11) (V c main_v14) (gr t) (row s r) j o := by
  rw [Pipeline.eq_sum_fin_of_reset_step_apply_of_flush (fun n h => outsAt1 V c n h) 13 (fun _ => 0)
    (fun t => edgeBlock (iblk1 V c 0 t) (iblk1 V c 1 t) (iblk1 V c 2 t) (iblk1 V c 3 t) (iblk1 V c 4 t) (iblk1 V c 5 t) (iblk1 V c 6 t) (iblk1 V c 7 t)
        (iblk1 V c 8 t) (iblk1 V c 9 t) (iblk1 V c 10 t))
    (fun t h i => by simp only [outsAt1_first V c t h, zero_add]) (fun t h i => by simp only [outsAt1_next V c t h, step_apply]) t hf (ix3 0 j o)]
  rw [zero_add]
  refine Finset.sum_congr rfl fun s _ => ?_
  rw [block_pairs]
  have e1 : ∀ h, gr ⟨13 * (t.val / 13) + s.val, h⟩ = gr t := fun h => Fin.ext (by show (13 * (t.val / 13) + s.val) / 13 = t.val / 13; omega)
  have e2 : ∀ h, sb ⟨13 * (t.val / 13) + s.val, h⟩ = s := fun h => Fin.ext (by show (13 * (t.val / 13) + s.val) % 13 = s.val; omega)
  rw [e1, e2]

set_option maxHeartbeats 4000000 in
/-- The second region's output array. -/
theorem edge_array (c : Dev nD) : (dat1 V c).arrAt 11 cfg1.N =
    edgeOut (V c main_v18_0) (V c main_v18_1) (V c main_v18_3) (V c main_v18_4) (V c main_v18_5) (V c main_arg9) (V c main_v19)
          (V c main_arg11) (V c main_v20) (V c main_v11) (V c main_v14) := by
  refine (dat1 V c).arrAt_eq_of_covers 11 _ ?_ fun t hf y => ?_
  · decide +kernel
  blk_simp
  rw [after1_11]
  idx_vars y
  obtain rfl : y0 = 0 := Subsingleton.elim _ _
  obtain ⟨-, -, -, -, i11⟩ := idx1_in t
  have e : ((cfg1.win 11).blk t).view.emb (ix3 0 y1 y2) = ix3 (gr t) y1 y2 := by unfold gr; blk_ext [i11]
  rw [show ((View.whole main_v21).slice (win1_11.rect t)).emb (ix3 0 y1 y2) = _ from e]
  rw [outs_sum V c t ((flush1_11 t).mp hf)]
  rfl

end Cert.KernelIdeal.Own
-- ==== Proof.PostValue.lean ====
module
public import proofs.«01_k».proof.Proof.Post
public import proofs.«01_k».proof.Proof.Spec
public import Idealize.ShloMosaic.Lib.Pointwise
public import Idealize.ShloMosaic.Lib.Pipeline.ValueKit

/-! What the last region leaves in its output array, element by element. -/

@[expose] public section
set_option maxRecDepth 16384
noncomputable section
namespace Cert.KernelIdeal.Own
open Idealize.ShloMosaic Idealize.SL.Sem Cert.KernelIdeal Cert.KernelIdeal.Gen

/-- The output network as the body computes it, on one node's row. -/
theorem pred_apply (v2 v6 : Vec Ideal S1x100x64 .f32) (v9 : Vec Ideal S64x64 .f32) (v11 : Vec Ideal S1x64 .f32) (v17 : Vec Ideal S64x64 .f32) (v19 : Vec Ideal S1x64 .f32) (v25 : Vec Ideal S64x4 .f32) (v27 : Vec Ideal S1x4 .f32) (n : Fin 100) (k : Fin 4) :
    k2_pay3 v2 v6 v9 v11 v17 v19 v25 v27 (ix2 n k)
      = Spec.head (fun l => v2 (ix3 0 n l) * ((1/99 : ℝ) : EReal) + v6 (ix3 0 n l)) (fun l m => v9 (ix2 l m)) (fun m => v11 (ix2 0 m))
          (fun l m => v17 (ix2 l m)) (fun m => v19 (ix2 0 m)) (fun l m => v25 (ix2 l m)) (fun m => v27 (ix2 0 m)) k := by
  pointwise [k2_pay3]
  rfl

/-- The result block's elements from the blocks the body loads. -/
theorem turn_apply (x2 : Vec Ideal S1x100x4 .f32) (p : FVec Ideal S100x4 .f32) (n : Fin 100) (k : Fin 4) :
    k2_pay1 (k2_pay2 x2) p (k2_pay4 x2) (ix3 0 n k)
      = Spec.turn (fun k => x2 (ix3 0 n k)) (fun k => p (ix2 n k)) k := by
  fin_cases k <;> (pointwise [k2_pay1, k2_pay2, k2_pay4]; rfl)

/-- Node `n` as a row of the padded arrays. -/
def pad (n : Fin 100) : Fin 104 := ⟨n.val, by omega⟩

/-- The last region's result as a function of the arrays it reads. -/
def postOut (agg res : Vec Ideal S64x104x64 .f32) (x : Vec Ideal S64x100x4 .f32) (w1 : Vec Ideal S64x64 .f32) (b1 : Vec Ideal S1x64 .f32)
    (w2 : Vec Ideal S64x64 .f32) (b2 : Vec Ideal S1x64 .f32) (w3 : Vec Ideal S64x4 .f32) (b3 : Vec Ideal S1x4 .f32) (i : S64x100x4.Idx) : EReal :=
  let b : Fin 64 := i 0
  let n : Fin 100 := i 1
  Spec.turn (fun k => x (ix3 b n k)) (Spec.head
      (fun l => agg (ix3 b (pad n) l) * ((1/99 : ℝ) : EReal) + res (ix3 b (pad n) l))
      (fun l m => w1 (ix2 l m)) (fun m => b1 (ix2 0 m)) (fun l m => w2 (ix2 l m)) (fun m => b2 (ix2 0 m))
      (fun l m => w3 (ix2 l m)) (fun m => b3 (ix2 0 m))) (i 2)

variable (V : (c : Dev nD) → (b : Ref sig .tc) → Buf (Elt Ideal) ((c.tc : Thread nD τ).loc b))

/-- Where the last region's blocks lie: graph `t` of each array with one entry per graph, the whole of each weight. -/
theorem idx2 : ∀ t : Fin cfg2.N, ((cfg2.win 0).index t = ![t.val, 0, 0] ∧ (cfg2.win 1).index t = ![t.val, 0, 0]) ∧ (cfg2.win 2).index t = ![t.val, 0, 0]
    ∧ (cfg2.win 3).index t = ![0, 0] ∧ (cfg2.win 4).index t = ![0, 0] ∧ (cfg2.win 5).index t = ![0, 0] ∧ (cfg2.win 6).index t = ![0, 0]
    ∧ (cfg2.win 7).index t = ![0, 0] ∧ (cfg2.win 8).index t = ![0, 0] ∧ (cfg2.win 9).index t = ![t.val, 0, 0] := by decide +kernel

set_option maxHeartbeats 4000000 in
/-- The last region's output array. -/
theorem post_array (c : Dev nD) : (dat2 V c).arrAt 9 cfg2.N =
    postOut (V c main_v21) (V c main_v18_2) (V c main_arg0) (V c main_arg15) (V c main_v22) (V c main_arg17) (V c main_v23)
      (V c main_arg19) (V c main_v24) := by
  refine (dat2 V c).arrAt_eq_of_covers 9 _ (by decide +kernel) fun t hf y => ?_
  blk_simp
  rw [after2_9]
  frame_out
  idx_vars y
  obtain rfl : y0 = 0 := Subsingleton.elim _ _
  obtain ⟨⟨i0, i1⟩, i2, i3, i4, i5, i6, i7, i8, i9⟩ := idx2 t
  have e : ((cfg2.win 9).blk t).view.emb (ix3 0 y1 y2) = ix3 (⟨t.val, t.isLt⟩ : Fin 64) y1 y2 := by blk_ext [i9]
  rw [show ((View.whole main_v25).slice (win2_9.rect t)).emb (ix3 0 y1 y2) = _ from e]
  have g2 : ∀ k, iblk2 V c 2 t (ix3 0 y1 k) = V c main_arg0 (ix3 (⟨t.val, t.isLt⟩ : Fin 64) y1 k) := fun k => by blk_ext [iblk2, i2]
  have g0 : ∀ l, View.ld (iblk2 V c 0 t) r2_1 (ix3 0 y1 l) = V c main_v21 (ix3 (⟨t.val, t.isLt⟩ : Fin 64) (pad y1) l) := fun l => by
    unfold pad; pointwise; blk_ext [iblk2, i0]
  have g1 : ∀ l, View.ld (iblk2 V c 1 t) r2_1 (ix3 0 y1 l) = V c main_v18_2 (ix3 (⟨t.val, t.isLt⟩ : Fin 64) (pad y1) l) := fun l => by
    unfold pad; pointwise; blk_ext [iblk2, i1]
  have g3 : ∀ l m, iblk2 V c 3 t (ix2 l m) = V c main_arg15 (ix2 l m) := fun l m => by blk_ext [iblk2, i3]
  have g4 : ∀ m, iblk2 V c 4 t (ix2 0 m) = V c main_v22 (ix2 0 m) := fun m => by blk_ext [iblk2, i4]
  have g5 : ∀ l m, iblk2 V c 5 t (ix2 l m) = V c main_arg17 (ix2 l m) := fun l m => by blk_ext [iblk2, i5]
  have g6 : ∀ m, iblk2 V c 6 t (ix2 0 m) = V c main_v23 (ix2 0 m) := fun m => by blk_ext [iblk2, i6]
  have g7 : ∀ l m, iblk2 V c 7 t (ix2 l m) = V c main_arg19 (ix2 l m) := fun l m => by blk_ext [iblk2, i7]
  have g8 : ∀ m, iblk2 V c 8 t (ix2 0 m) = V c main_v24 (ix2 0 m) := fun m => by blk_ext [iblk2, i8]
  rw [turn_apply]
  simp only [pred_apply, postOut, g0, g1, g2, g3, g4, g5, g6, g7, g8]
  rfl

end Cert.KernelIdeal.Own
-- ==== Proof.KernelValue.lean ====
module
public import proofs.«01_k».proof.Proof.Host
public import proofs.«01_k».proof.Proof.PrepValue
public import proofs.«01_k».proof.Proof.GateArray
public import proofs.«01_k».proof.Proof.EdgeValue
public import proofs.«01_k».proof.Proof.PostValue

/-! The three regions put together: what the program leaves in its result. -/

@[expose] public section
set_option maxRecDepth 16384
noncomputable section
namespace Cert.KernelIdeal.Own
open Idealize.ShloMosaic Idealize.ShloMosaic.TcCoe Idealize.SL.Sem Cert.KernelIdeal Cert.KernelIdeal.Gen

/-- A total over thirteen groups of eight rows, the last four of which count for nothing. -/
theorem sum_rows (F : Fin 104 → EReal) (hz : ∀ i : Fin 104, 100 ≤ i.val → F i = 0) :
    ∑ s : Fin 13, ∑ r : Fin 8, F (row s r) = ∑ i : Fin 100, F (pad i) := by
  have e1 : ∑ s : Fin 13, ∑ r : Fin 8, F (row s r) = ∑ i : Fin 104, F i := by
    rw [← Equiv.sum_comp (finProdFinEquiv (m := 13) (n := 8)) F, Fintype.sum_prod_type]
    refine Finset.sum_congr rfl fun s _ => Finset.sum_congr rfl fun r _ => congrArg F (Fin.ext ?_)
    show 8 * s.val + r.val = r.val + 8 * s.val
    omega
  rw [e1]
  refine (Fin.sum_univ_add (a := 100) (b := 4) F).trans ?_
  rw [Finset.sum_eq_zero (s := Finset.univ (α := Fin 4)) fun i _ => hz _ (by show 100 ≤ 100 + i.val; omega), add_zero]
  rfl

/-- A pair of no kind contributes nothing. -/
theorem pair_zero (sa ar : Fin 64 → EReal) (dx dy : EReal) (w1 : Fin 3 → Fin 64 → EReal) (b1 : Fin 64 → EReal) (w2 : Fin 64 → Fin 64 → EReal)
    (b2 : Fin 64 → EReal) (wo : Fin 64 → Fin 3 → Fin 64 → EReal) (bo : Fin 3 → Fin 64 → EReal) (g : Fin 3 → EReal) (o : Fin 64)
    (h : ∀ ch, g ch = 0) : Spec.pair sa ar dx dy w1 b1 w2 b2 wo bo g o = 0 := by
  unfold Spec.pair Spec.edge
  rw [h 0, h 1, h 2, mul_zero, mul_zero, mul_zero, add_zero, add_zero]

theorem gate_pad (e : Fin 100 → Fin 99 → EReal) (i n : Fin 100) :
    gate e (pad i) (pad n) = if i = n then 0 else e i (Spec.slot i n) := by
  have hi : (pad i).val = i.val := rfl
  have hn : (pad n).val = n.val := rfl
  unfold gate
  rw [dif_pos (show (pad i).val < 100 from i.isLt)]
  by_cases h : i = n
  · subst h
    rw [dif_neg (lt_irrefl _), dif_neg (fun h => absurd h.1 (lt_irrefl _)), if_pos rfl]
  · rw [if_neg h]
    have hv : i.val ≠ n.val := fun e => h (Fin.ext e)
    by_cases hl : n.val < i.val
    · rw [dif_pos (show (pad n).val < (pad i).val from hl)]
      refine congrArg (e i) (Fin.ext ?_)
      unfold Spec.slot
      simp only [if_pos hl]
      rfl
    · rw [dif_neg (show ¬ (pad n).val < (pad i).val from hl), dif_pos (show (pad i).val < (pad n).val ∧ (pad n).val < 100 from ⟨by omega, n.isLt⟩)]
      refine congrArg (e i) (Fin.ext ?_)
      unfold Spec.slot
      simp only [if_neg hl]
      rfl

theorem gate_out (e : Fin 100 → Fin 99 → EReal) (i j : Fin 104) (h : 100 ≤ i.val) : gate e i j = 0 := by
  unfold gate
  rw [dif_neg (by omega)]

theorem gateOut_at (e : Vec Ideal S64x100x99x4 .f32) (b : Fin 64) (ch : Fin 3) (i j : Fin 104) :
    gateOut e (ix4 b ch i j) = gate (fun m k => e (ix4 b m k (⟨ch.val + 1, by omega⟩ : Fin 4))) i j := rfl

/-- The second region's total for a node, over the nodes its edges come from. -/
theorem total_eq (x : Vec Ideal S64x100x4 .f32) (fl : Vec Ideal S64x100x2 .f32) (ce : Vec Ideal S64x100x16 .f32) (w w' : Vec Ideal S31x64 .f32)
    (z : Vec Ideal S1x64 .f32) (e : Vec Ideal S64x100x99x4 .f32) (w1 : Vec Ideal S3x64 .f32) (b1 : Vec Ideal S1x64 .f32) (w2 : Vec Ideal S64x64 .f32)
    (b2 : Vec Ideal S1x64 .f32) (wo : Vec Ideal S64x192 .f32) (bo : Vec Ideal S1x192 .f32) (b : Fin 64) (n : Fin 100) (l : Fin 64) :
    edgeOut (sendOut x fl ce w) (biasOut x fl ce w' z) (posOut x) (posTOut x) (gateOut e) w1 b1 w2 b2 wo bo (ix3 b (pad n) l)
      = ∑ i : Fin 100, if i = n then 0 else Spec.pair (fun q => ∑ k, nodeFeat x fl ce b i k * w (ix2 k q))
          (fun q => ∑ k, nodeFeat x fl ce b n k * w' (ix2 k q) + z (ix2 0 q)) (x (ix3 b i 0) - x (ix3 b n 0)) (x (ix3 b i 1) - x (ix3 b n 1))
          (fun l m => w1 (ix2 l m)) (fun m => b1 (ix2 0 m)) (fun l m => w2 (ix2 l m)) (fun m => b2 (ix2 0 m))
          (fun q ch o => wo (ix2 q (col ch o))) (fun ch o => bo (ix2 0 (col ch o))) (fun ch => e (ix4 b i (Spec.slot i n) (⟨ch.val + 1, by omega⟩ : Fin 4))) l := by
  refine (sum_rows (fun i => pairAt (sendOut x fl ce w) (biasOut x fl ce w' z) (posOut x) (posTOut x) (gateOut e) w1 b1 w2 b2 wo bo b i (pad n) l) ?_).trans ?_
  · intro i hi
    exact pair_zero _ _ _ _ _ _ _ _ _ _ _ _ fun ch => (gateOut_at e b ch i (pad n)).trans (gate_out _ i (pad n) hi)
  · refine Finset.sum_congr rfl fun i _ => ?_
    have hs : ∀ q, sendOut x fl ce w (ix3 b (pad i) q) = ∑ k, nodeFeat x fl ce b i k * w (ix2 k q) := fun q => dif_pos i.isLt
    have hr : ∀ q, biasOut x fl ce w' z (ix3 b (pad n) q) = ∑ k, nodeFeat x fl ce b n k * w' (ix2 k q) + z (ix2 0 q) := fun q => dif_pos n.isLt
    have hp : ∀ k : Fin 2, posOut x (ix3 b (pad i) k) = x (ix3 b i (⟨k.val, by omega⟩ : Fin 4)) := fun k => dif_pos i.isLt
    have ht : ∀ k : Fin 2, posTOut x (ix3 b k (pad n)) = x (ix3 b n (⟨k.val, by omega⟩ : Fin 4)) := fun k => dif_pos n.isLt
    have hg : ∀ ch : Fin 3, gateOut e (ix4 b ch (pad i) (pad n))
        = if i = n then 0 else e (ix4 b i (Spec.slot i n) (⟨ch.val + 1, by omega⟩ : Fin 4)) := fun ch => (gateOut_at e b ch _ _).trans (gate_pad _ i n)
    unfold pairAt
    by_cases h : i = n
    · rw [if_pos h]
      exact pair_zero _ _ _ _ _ _ _ _ _ _ _ _ fun ch => (hg ch).trans (if_pos h)
    · rw [if_neg h]
      simp only [hs, hr, hp, ht, hg, if_neg h]
      rfl

variable (m : (ℓ : Loc nD τ sig) → Buf (Elt Ideal) ℓ) (ρ : Dev nD → PrngReg) (c : Dev nD)

theorem sendOut_congr {x x' : Vec Ideal S64x100x4 .f32} {fl fl' : Vec Ideal S64x100x2 .f32} {ce ce' : Vec Ideal S64x100x16 .f32}
    (w : Vec Ideal S31x64 .f32) (hx : x = x') (hf : fl = fl') (hc : ce = ce') : sendOut x fl ce w = sendOut x' fl' ce' w := by
  subst hx hf hc; rfl

theorem biasOut_congr {x x' : Vec Ideal S64x100x4 .f32} {fl fl' : Vec Ideal S64x100x2 .f32} {ce ce' : Vec Ideal S64x100x16 .f32}
    {w w' : Vec Ideal S31x64 .f32} (z : Vec Ideal S1x64 .f32) (hx : x = x') (hf : fl = fl') (hc : ce = ce') (hw : w = w') :
    biasOut x fl ce w z = biasOut x' fl' ce' w' z := by
  subst hx hf hc hw; rfl

theorem edgeOut_congr {sa sa' ar ar' : Vec Ideal S64x104x64 .f32} {ps ps' : Vec Ideal S64x104x2 .f32} {pt pt' : Vec Ideal S64x2x104 .f32}
    {g g' : Vec Ideal S64x3x104x104 .f32} {w1 w1' : Vec Ideal S3x64 .f32} (b1 : Vec Ideal S1x64 .f32) {w2 w2' : Vec Ideal S64x64 .f32}
    (b2 : Vec Ideal S1x64 .f32) {wo wo' : Vec Ideal S64x192 .f32} {bo bo' : Vec Ideal S1x192 .f32} (h1 : sa = sa') (h2 : ar = ar') (h3 : ps = ps')
    (h4 : pt = pt') (h5 : g = g') (h6 : w1 = w1') (h7 : w2 = w2') (h8 : wo = wo') (h9 : bo = bo') :
    edgeOut sa ar ps pt g w1 b1 w2 b2 wo bo = edgeOut sa' ar' ps' pt' g' w1' b1 w2' b2 wo' bo' := by
  subst h1 h2 h3 h4 h5 h6 h7 h8 h9; rfl

theorem postOut_congr {agg agg' res res' : Vec Ideal S64x104x64 .f32} {x x' : Vec Ideal S64x100x4 .f32} {w1 w1' : Vec Ideal S64x64 .f32}
    (b1 : Vec Ideal S1x64 .f32) {w2 w2' : Vec Ideal S64x64 .f32} (b2 : Vec Ideal S1x64 .f32) {w3 w3' : Vec Ideal S64x4 .f32} (b3 : Vec Ideal S1x4 .f32)
    (h1 : agg = agg') (h2 : res = res') (h3 : x = x') (h4 : w1 = w1') (h5 : w2 = w2') (h6 : w3 = w3') :
    postOut agg res x w1 b1 w2 b2 w3 b3 = postOut agg' res' x' w1' b1 w2' b2 w3' b3 := by
  subst h1 h2 h3 h4 h5 h6; rfl

theorem arg1 (r : Ref sig .tc) (h : r ∈ argRefs) : V1 m ρ c r = m ((c : Thread nD τ).loc r) := W1_args m ρ c r h
theorem arg3 (r : Ref sig .tc) (h : r ∈ argRefs) : V3 m ρ c r = m ((c : Thread nD τ).loc r) := W3_args m ρ c r h
theorem arg5 (r : Ref sig .tc) (h : r ∈ argRefs) : V5 m ρ c r = m ((c : Thread nD τ).loc r) := W5_args m ρ c r h

theorem send3 : V3 m ρ c main_v18_0 = sendOut (m ((c : Thread nD τ).loc main_arg0)) (m ((c : Thread nD τ).loc main_arg3)) (m ((c : Thread nD τ).loc main_arg4))
    (V1 m ρ c main_v3) :=
  (W3_of m ρ c main_v18_0 (by decide)).trans ((W2_arr m ρ c 9).trans ((send_array (V1 m ρ) c).trans
    (sendOut_congr _ (arg1 m ρ c main_arg0 (by decide)) (arg1 m ρ c main_arg3 (by decide)) (arg1 m ρ c main_arg4 (by decide)))))

theorem recv3 : V3 m ρ c main_v18_1 = biasOut (m ((c : Thread nD τ).loc main_arg0)) (m ((c : Thread nD τ).loc main_arg3)) (m ((c : Thread nD τ).loc main_arg4))
    (V1 m ρ c main_v8) (V1 m ρ c main_v16) :=
  (W3_of m ρ c main_v18_1 (by decide)).trans ((W2_arr m ρ c 10).trans ((recv_array (V1 m ρ) c).trans
    (biasOut_congr _ (arg1 m ρ c main_arg0 (by decide)) (arg1 m ρ c main_arg3 (by decide)) (arg1 m ρ c main_arg4 (by decide)) rfl)))

theorem res5 : V5 m ρ c main_v18_2 = biasOut (m ((c : Thread nD τ).loc main_arg0)) (m ((c : Thread nD τ).loc main_arg3)) (m ((c : Thread nD τ).loc main_arg4))
    (m ((c : Thread nD τ).loc main_arg5)) (V1 m ρ c main_v17) :=
  (W5_of m ρ c main_v18_2 (by decide)).trans ((W4_of m ρ c main_v18_2 (by decide)).trans ((W3_of m ρ c main_v18_2 (by decide)).trans
    ((W2_arr m ρ c 11).trans ((res_array (V1 m ρ) c).trans
      (biasOut_congr _ (arg1 m ρ c main_arg0 (by decide)) (arg1 m ρ c main_arg3 (by decide)) (arg1 m ρ c main_arg4 (by decide))
        (arg1 m ρ c main_arg5 (by decide)))))))

theorem pos3 : V3 m ρ c main_v18_3 = posOut (m ((c : Thread nD τ).loc main_arg0)) :=
  (W3_of m ρ c main_v18_3 (by decide)).trans ((W2_arr m ρ c 12).trans ((pos_array (V1 m ρ) c).trans (congrArg posOut (arg1 m ρ c main_arg0 (by decide)))))

theorem posT3 : V3 m ρ c main_v18_4 = posTOut (m ((c : Thread nD τ).loc main_arg0)) :=
  (W3_of m ρ c main_v18_4 (by decide)).trans ((W2_arr m ρ c 13).trans ((posT_array (V1 m ρ) c).trans (congrArg posTOut (arg1 m ρ c main_arg0 (by decide)))))

theorem gate3 : V3 m ρ c main_v18_5 = gateOut (V1 m ρ c main_v15) :=
  (W3_of m ρ c main_v18_5 (by decide)).trans ((W2_arr m ρ c 14).trans (gate_array (V1 m ρ) c))

theorem outW3 : V3 m ρ c main_v11 = V1 m ρ c main_v11 :=
  (W3_of m ρ c main_v11 (by decide)).trans (W2_of m ρ c main_v11 (by decide))

theorem outB3 : V3 m ρ c main_v14 = V1 m ρ c main_v14 :=
  (W3_of m ρ c main_v14 (by decide)).trans (W2_of m ρ c main_v14 (by decide))

/-- The totals the second region leaves, in terms of the launch contents and of what the operations before the first region wrote. -/
theorem total5 : V5 m ρ c main_v21 = edgeOut
    (sendOut (m ((c : Thread nD τ).loc main_arg0)) (m ((c : Thread nD τ).loc main_arg3)) (m ((c : Thread nD τ).loc main_arg4)) (V1 m ρ c main_v3))
    (biasOut (m ((c : Thread nD τ).loc main_arg0)) (m ((c : Thread nD τ).loc main_arg3)) (m ((c : Thread nD τ).loc main_arg4)) (V1 m ρ c main_v8) (V1 m ρ c main_v16))
    (posOut (m ((c : Thread nD τ).loc main_arg0))) (posTOut (m ((c : Thread nD τ).loc main_arg0))) (gateOut (V1 m ρ c main_v15))
    (m ((c : Thread nD τ).loc main_arg9)) (V3 m ρ c main_v19) (m ((c : Thread nD τ).loc main_arg11)) (V3 m ρ c main_v20) (V1 m ρ c main_v11) (V1 m ρ c main_v14) :=
  (W5_of m ρ c main_v21 (by decide)).trans ((W4_arr m ρ c 11).trans ((edge_array (V3 m ρ) c).trans
    (edgeOut_congr _ _ (send3 m ρ c) (recv3 m ρ c) (pos3 m ρ c) (posT3 m ρ c) (gate3 m ρ c) (arg3 m ρ c main_arg9 (by decide))
      (arg3 m ρ c main_arg11 (by decide)) (outW3 m ρ c) (outB3 m ρ c))))

theorem out6 : W6 m ρ c (Proc.devRef .tc main_v25) = postOut (edgeOut
    (sendOut (m ((c : Thread nD τ).loc main_arg0)) (m ((c : Thread nD τ).loc main_arg3)) (m ((c : Thread nD τ).loc main_arg4)) (V1 m ρ c main_v3))
    (biasOut (m ((c : Thread nD τ).loc main_arg0)) (m ((c : Thread nD τ).loc main_arg3)) (m ((c : Thread nD τ).loc main_arg4)) (V1 m ρ c main_v8) (V1 m ρ c main_v16))
    (posOut (m ((c : Thread nD τ).loc main_arg0))) (posTOut (m ((c : Thread nD τ).loc main_arg0))) (gateOut (V1 m ρ c main_v15))
    (m ((c : Thread nD τ).loc main_arg9)) (V3 m ρ c main_v19) (m ((c : Thread nD τ).loc main_arg11)) (V3 m ρ c main_v20) (V1 m ρ c main_v11) (V1 m ρ c main_v14))
    (biasOut (m ((c : Thread nD τ).loc main_arg0)) (m ((c : Thread nD τ).loc main_arg3)) (m ((c : Thread nD τ).loc main_arg4))
      (m ((c : Thread nD τ).loc main_arg5)) (V1 m ρ c main_v17))
    (m ((c : Thread nD τ).loc main_arg0)) (m ((c : Thread nD τ).loc main_arg15)) (V5 m ρ c main_v22) (m ((c : Thread nD τ).loc main_arg17)) (V5 m ρ c main_v23)
    (m ((c : Thread nD τ).loc main_arg19)) (V5 m ρ c main_v24) :=
  (W6_arr m ρ c 9).trans ((post_array (V5 m ρ) c).trans
    (postOut_congr _ _ _ (total5 m ρ c) (res5 m ρ c) (arg5 m ρ c main_arg0 (by decide)) (arg5 m ρ c main_arg15 (by decide))
      (arg5 m ρ c main_arg17 (by decide)) (arg5 m ρ c main_arg19 (by decide))))

theorem biasOut_at (x : Vec Ideal S64x100x4 .f32) (fl : Vec Ideal S64x100x2 .f32) (ce : Vec Ideal S64x100x16 .f32) (w : Vec Ideal S31x64 .f32)
    (z : Vec Ideal S1x64 .f32) (b : Fin 64) (n : Fin 100) (q : Fin 64) :
    biasOut x fl ce w z (ix3 b (pad n) q) = ∑ k, nodeFeat x fl ce b n k * w (ix2 k q) + z (ix2 0 q) := dif_pos n.isLt

theorem postOut_at (agg res : Vec Ideal S64x104x64 .f32) (x : Vec Ideal S64x100x4 .f32) (w1 : Vec Ideal S64x64 .f32) (b1 : Vec Ideal S1x64 .f32)
    (w2 : Vec Ideal S64x64 .f32) (b2 : Vec Ideal S1x64 .f32) (w3 : Vec Ideal S64x4 .f32) (b3 : Vec Ideal S1x4 .f32) (b : Fin 64) (n : Fin 100) (k : Fin 4) :
    postOut agg res x w1 b1 w2 b2 w3 b3 (ix3 b n k) = Spec.turn (fun k => x (ix3 b n k)) (Spec.head
      (fun l => agg (ix3 b (pad n) l) * ((1/99 : ℝ) : EReal) + res (ix3 b (pad n) l))
      (fun l m => w1 (ix2 l m)) (fun m => b1 (ix2 0 m)) (fun l m => w2 (ix2 l m)) (fun m => b2 (ix2 0 m))
      (fun l m => w3 (ix2 l m)) (fun m => b3 (ix2 0 m))) k := rfl

/-- The three regions' results composed are the layer's mathematics, when the operands between them hold the rearranged weights. -/
theorem composed (x : Vec Ideal S64x100x4 .f32) (fl : Vec Ideal S64x100x2 .f32) (ce : Vec Ideal S64x100x16 .f32) (ed : Vec Ideal S64x9900x4 .f32)
    (Wr : Vec Ideal S31x64 .f32) (br : Vec Ideal S64 .f32) (Wa : Vec Ideal S56x64 .f32) (ba : Vec Ideal S64 .f32) (w1 : Vec Ideal S3x64 .f32)
    (b1 : Vec Ideal S64 .f32) (w2 : Vec Ideal S64x64 .f32) (b2 : Vec Ideal S64 .f32) (wo : Vec Ideal S64x192 .f32) (bo : Vec Ideal S192 .f32)
    (u1 : Vec Ideal S64x64 .f32) (c1 : Vec Ideal S64 .f32) (u2 : Vec Ideal S64x64 .f32) (c2 : Vec Ideal S64 .f32) (u3 : Vec Ideal S64x4 .f32)
    (c3 : Vec Ideal S4 .f32)
    (w w' : Vec Ideal S31x64 .f32) (z z' : Vec Ideal S1x64 .f32) (e : Vec Ideal S64x100x99x4 .f32) (rb1 rb2 rc1 rc2 : Vec Ideal S1x64 .f32)
    (wo' : Vec Ideal S64x192 .f32) (bo' : Vec Ideal S1x192 .f32) (rc3 : Vec Ideal S1x4 .f32)
    (hw : ∀ k o, w (ix2 k o) = Spec.wsend (fun k o => Wa (ix2 k o)) k o) (hw' : ∀ k o, w' (ix2 k o) = Spec.wrecv (fun k o => Wa (ix2 k o)) k o)
    (hz : ∀ o, z (ix2 0 o) = ba (ix1 o)) (hz' : ∀ o, z' (ix2 0 o) = br (ix1 o))
    (he : ∀ b i k ch, e (ix4 b i k ch) = ed (ix3 b (Spec.edgeIx i k) ch))
    (hb1 : ∀ o, rb1 (ix2 0 o) = b1 (ix1 o)) (hb2 : ∀ o, rb2 (ix2 0 o) = b2 (ix1 o)) (hc1 : ∀ o, rc1 (ix2 0 o) = c1 (ix1 o))
    (hc2 : ∀ o, rc2 (ix2 0 o) = c2 (ix1 o)) (hc3 : ∀ o, rc3 (ix2 0 o) = c3 (ix1 o))
    (hwo : ∀ q ch o, wo' (ix2 q (col ch o)) = wo (ix2 q (Spec.src ch o))) (hbo : ∀ ch o, bo' (ix2 0 (col ch o)) = bo (ix1 (Spec.src ch o)))
    (b : Fin 64) (n : Fin 100) (k : Fin 4) :
    postOut (edgeOut (sendOut x fl ce w) (biasOut x fl ce w' z) (posOut x) (posTOut x) (gateOut e) w1 rb1 w2 rb2 wo' bo') (biasOut x fl ce Wr z') x u1 rc1 u2 rc2 u3 rc3
        (ix3 b n k)
      = Spec.result (fun n k => x (ix3 b n k)) (fun n k => fl (ix3 b n k)) (fun n k => ce (ix3 b n k))
          (fun i k ch => ed (ix3 b (Spec.edgeIx i k) (⟨ch.val + 1, by omega⟩ : Fin 4)))
          (fun k l => Wr (ix2 k l)) (fun l => br (ix1 l)) (fun k l => Wa (ix2 k l)) (fun l => ba (ix1 l))
          (fun k l => w1 (ix2 k l)) (fun l => b1 (ix1 l)) (fun k l => w2 (ix2 k l)) (fun l => b2 (ix1 l))
          (fun k l => wo (ix2 k l)) (fun l => bo (ix1 l)) (fun k l => u1 (ix2 k l)) (fun l => c1 (ix1 l))
          (fun k l => u2 (ix2 k l)) (fun l => c2 (ix1 l)) (fun k l => u3 (ix2 k l)) (fun l => c3 (ix1 l)) n k := by
  rw [postOut_at]
  simp only [total_eq, biasOut_at, hw, hw', hz, hz', he, hb1, hb2, hc1, hc2, hc3, hwo, hbo]
  unfold Spec.result nodeFeat
  rfl

/-- The program's result, element by element: the layer's mathematics on the launch contents of the arguments. -/
theorem kernel_result (b : Fin 64) (n : Fin 100) (k : Fin 4) :
    W6 m ρ c (Proc.devRef .tc main_v25) (ix3 b n k)
      = Spec.result (fun n k => m ((c : Thread nD τ).loc main_arg0) (ix3 b n k)) (fun n k => m ((c : Thread nD τ).loc main_arg3) (ix3 b n k))
          (fun n k => m ((c : Thread nD τ).loc main_arg4) (ix3 b n k))
          (fun i k ch => m ((c : Thread nD τ).loc main_arg2) (ix3 b (Spec.edgeIx i k) (⟨ch.val + 1, by omega⟩ : Fin 4)))
          (fun k l => m ((c : Thread nD τ).loc main_arg5) (ix2 k l)) (fun l => m ((c : Thread nD τ).loc main_arg6) (ix1 l))
          (fun k l => m ((c : Thread nD τ).loc main_arg7) (ix2 k l)) (fun l => m ((c : Thread nD τ).loc main_arg8) (ix1 l))
          (fun k l => m ((c : Thread nD τ).loc main_arg9) (ix2 k l)) (fun l => m ((c : Thread nD τ).loc main_arg10) (ix1 l))
          (fun k l => m ((c : Thread nD τ).loc main_arg11) (ix2 k l)) (fun l => m ((c : Thread nD τ).loc main_arg12) (ix1 l))
          (fun k l => m ((c : Thread nD τ).loc main_arg13) (ix2 k l)) (fun l => m ((c : Thread nD τ).loc main_arg14) (ix1 l))
          (fun k l => m ((c : Thread nD τ).loc main_arg15) (ix2 k l)) (fun l => m ((c : Thread nD τ).loc main_arg16) (ix1 l))
          (fun k l => m ((c : Thread nD τ).loc main_arg17) (ix2 k l)) (fun l => m ((c : Thread nD τ).loc main_arg18) (ix1 l))
          (fun k l => m ((c : Thread nD τ).loc main_arg19) (ix2 k l)) (fun l => m ((c : Thread nD τ).loc main_arg20) (ix1 l)) n k := by
  rw [out6]
  exact composed _ _ _ _ _ _ _ _ _ _ _ _ _ _ _ _ _ _ _ _ _ _ _ _ _ _ _ _ _ _ _ _ (v3_eq m ρ c) (v8_eq m ρ c) (v16_eq m ρ c) (v17_eq m ρ c)
    (v15_eq m ρ c) (v19_eq m ρ c) (v20_eq m ρ c) (v22_eq m ρ c) (v23_eq m ρ c) (v24_eq m ρ c) (v11_eq m ρ c) (v14_eq m ρ c) b n k

end Cert.KernelIdeal.Own
-- ==== Proof.RefNode.lean ====
module
public import proofs.«01_k».proof.Proof.Gen.ReferenceIdeal.Read
public import proofs.«01_k».proof.Proof.Trig
public import Idealize.ShloMosaic.Lib.Pointwise
public import Idealize.ShloMosaic.Lib.Pipeline.ValueKit

/-! A node's features, as the reference forms them. -/

@[expose] public section
set_option maxRecDepth 16384
noncomputable section
namespace Cert.ReferenceIdeal.Own
open Idealize.ShloMosaic Idealize.SL.Sem Cert.ReferenceIdeal Cert.ReferenceIdeal.Gen Cert.ReferenceIdeal.Read

variable (x0 : Vec Ideal S64x100x4 .f32) (x3 : Vec Ideal S64x100x2 .f32)

/-- The state of node `n` of graph `b`: place, then speed. -/
def st (b : Fin 64) (n : Fin 100) (k : Fin 4) : EReal := x0 (ix3 b n k)

/-- The predicted field at node `n` of graph `b`. -/
def fl (b : Fin 64) (n : Fin 100) (k : Fin 2) : EReal := x3 (ix3 b n k)

theorem v15_at (b : Fin 64) (n : Fin 100) : val_main_v15 (F := Ideal) x0 x3 (ix2 b n) = Ideal.atan2 (x0 (ix3 b n 3)) (x0 (ix3 b n 2)) := by
  unfold val_main_v15 val_main_v14 val_main_v13 val_main_v12 val_main_v11 val_main_v10 val_main_v8
  pointwise

theorem v29_at (b : Fin 64) (n : Fin 100) (a : Fin 3) (k : Fin 2) : val_main_v29 (F := Ideal) x0 x3 (ix4 b n a k)
    = Spec.ext (st x0 b n) (fl x3 b n) ⟨2 * a.val + k.val, by omega⟩ := by
  unfold val_main_v29 val_main_v8
  fin_cases a <;> fin_cases k <;> (pointwise; rfl)

theorem v27_at (b : Fin 64) (n : Fin 100) (a k : Fin 2) : val_main_v27 (F := Ideal) x0 x3 (ix4 b n a k)
    = ![![val_main_v16 (F := Ideal) x0 x3 (ix2 b n), -val_main_v17 (F := Ideal) x0 x3 (ix2 b n)],
        ![val_main_v17 (F := Ideal) x0 x3 (ix2 b n), val_main_v16 (F := Ideal) x0 x3 (ix2 b n)]] a k := by
  unfold val_main_v27 val_main_v26 val_main_v25 val_main_v24 val_main_v23 val_main_v22 val_main_v21 val_main_v20 val_main_v19 val_main_v18
  fin_cases a <;> fin_cases k <;> (pointwise; try rfl)

theorem v28_at (b : Fin 64) (n : Fin 100) (a k : Fin 2) : val_main_v28 (F := Ideal) x0 x3 (ix4 b n a k)
    = val_main_v27 (F := Ideal) x0 x3 (ix4 b n k a) := by
  unfold val_main_v28
  pointwise

theorem v30_at (b : Fin 64) (n : Fin 100) (a : Fin 3) (j : Fin 2) : val_main_v30 (F := Ideal) x0 x3 (ix4 b n a j)
    = val_main_v29 (F := Ideal) x0 x3 (ix4 b n a 0) * val_main_v27 (F := Ideal) x0 x3 (ix4 b n 0 j)
      + val_main_v29 (F := Ideal) x0 x3 (ix4 b n a 1) * val_main_v27 (F := Ideal) x0 x3 (ix4 b n 1 j) := by
  have el : ∀ k, lidx_main_v30 (ix4 b n a j) k = ix4 b n a k := fun k => funext fun d => by
    match d with
    | ⟨0, _⟩ => rfl
    | ⟨1, _⟩ => rfl
    | ⟨2, _⟩ => rfl
    | ⟨3, _⟩ => rfl
  have er : ∀ k, ridx_main_v30 (ix4 b n a j) k = ix4 b n j k := fun k => funext fun d => by
    match d with
    | ⟨0, _⟩ => rfl
    | ⟨1, _⟩ => rfl
    | ⟨2, _⟩ => rfl
    | ⟨3, _⟩ => rfl
  rw [val_main_v30_apply, Fin.sum_univ_two, el, el, er, er, v28_at, v28_at]

theorem v38_at (b : Fin 64) (n : Fin 100) : val_main_v38 (F := Ideal) x0 x3 (ix3 b n 0) = Spec.norm2 (st x0 b n 2) (st x0 b n 3) := by
  unfold val_main_v38 val_main_v37 val_main_v36 val_main_v35 val_main_v34 val_main_v33 val_main_cst_0 val_main_cst val_main_v10 val_main_v8
  pointwise
  rw [Fin.sum_univ_two]
  rfl

theorem v44_at (b : Fin 64) (n : Fin 100) : val_main_v44 (F := Ideal) x0 x3 (ix3 b n 0) = Spec.norm2 (st x0 b n 0) (st x0 b n 1) := by
  unfold val_main_v44 val_main_v43 val_main_v42 val_main_v41 val_main_v40 val_main_v39 val_main_cst_1 val_main_cst_2 val_main_v9 val_main_v8
  pointwise
  rw [Fin.sum_univ_two]
  rfl

theorem v54_at (b : Fin 64) (n : Fin 100) : val_main_v54 (F := Ideal) x0 x3 (ix3 b n 0) = Spec.norm2 (fl x3 b n 0) (fl x3 b n 1) := by
  unfold val_main_v54 val_main_v53 val_main_v52 val_main_v51 val_main_v50 val_main_v49 val_main_cst_3 val_main_cst_4 val_main_v32 val_main_v8
  pointwise
  rw [Fin.sum_univ_two]
  rfl

variable (h0 : ∀ i, ∃ r : ℝ, x0 i = (r : EReal))
include h0

theorem v16_at (b : Fin 64) (n : Fin 100) : val_main_v16 (F := Ideal) x0 x3 (ix2 b n) = Spec.dirc (st x0 b n 2) (st x0 b n 3) := by
  show Ideal.cos (val_main_v15 (F := Ideal) x0 x3 (ix2 b n)) = _
  obtain ⟨x, hx⟩ := h0 (ix3 b n 2)
  obtain ⟨y, hy⟩ := h0 (ix3 b n 3)
  unfold st
  rw [v15_at, hx, hy, Spec.cos_atan2]

theorem v17_at (b : Fin 64) (n : Fin 100) : val_main_v17 (F := Ideal) x0 x3 (ix2 b n) = Spec.dirs (st x0 b n 2) (st x0 b n 3) := by
  show Ideal.sin (val_main_v15 (F := Ideal) x0 x3 (ix2 b n)) = _
  obtain ⟨x, hx⟩ := h0 (ix3 b n 2)
  obtain ⟨y, hy⟩ := h0 (ix3 b n 3)
  unfold st
  rw [v15_at, hx, hy, Spec.sin_atan2]

/-- A node's local coordinates. -/
theorem v31_at (b : Fin 64) (n : Fin 100) (k : Fin 6) :
    val_main_v31 (F := Ideal) x0 x3 (ix3 b n k) = Spec.loc (st x0 b n) (fl x3 b n) k := by
  unfold val_main_v31
  fin_cases k <;>
    (pointwise
     rw [v30_at, v27_at, v27_at, v29_at, v29_at, v16_at x0 x3 h0, v17_at x0 x3 h0, mul_comm _ (_ : EReal)]
     exact congrArg _ (mul_comm _ _))

set_option maxHeartbeats 1000000 in
/-- A node's extra features. -/
theorem v55_at (b : Fin 64) (n : Fin 100) (k : Fin 9) :
    val_main_v55 (F := Ideal) x0 x3 (ix3 b n k) = Spec.extra (st x0 b n) (fl x3 b n) k := by
  unfold val_main_v55 val_main_v45 val_main_v46 val_main_v47 val_main_v48
  fin_cases k <;>
    (pointwise
     first
     | rw [v38_at]
     | rw [v44_at]
     | rw [v16_at x0 x3 h0]
     | rw [v17_at x0 x3 h0]
     | rw [v54_at]
     | rw [v31_at x0 x3 h0]
     rfl)

set_option maxHeartbeats 4000000 in
/-- All of a node's features. -/
theorem v168_at (x4 : Vec Ideal S64x100x16 .f32) (b : Fin 64) (n : Fin 100) (k : Fin 31) :
    val_main_v168 (F := Ideal) x0 x3 x4 (ix3 b n k) = Spec.feat (st x0 b n) (fl x3 b n) (fun k => x4 (ix3 b n k)) k := by
  unfold val_main_v168 val_main_v56
  fin_cases k <;>
    (pointwise
     first
     | rw [v31_at x0 x3 h0]
     | rw [v55_at x0 x3 h0]
     | skip
     rfl)

end Cert.ReferenceIdeal.Own
-- ==== Proof.RefGather.lean ====
module
public import proofs.«01_k».proof.Proof.Gen.ReferenceIdeal.Read
public import Idealize.ShloMosaic.Lib.ValueIdxCore
public import Idealize.ShloMosaic.Lib.Pointwise

/-! Rows taken from, and added into, an array of nodes: the reading of both at one element. -/

@[expose] public section
set_option maxRecDepth 16384
noncomputable section
namespace Cert.ReferenceIdeal.Own
open Idealize.ShloMosaic Idealize.SL.Sem Cert.ReferenceIdeal Cert.ReferenceIdeal.Gen

/-- Taking one row of nodes for every edge, of every graph at once. -/
abbrev rowDims (C : Nat) (wf : GatherDims.WF ⟨3, ![64, 100, C]⟩ S9900x1 ⟨3, ![64, 9900, C]⟩ [0, 2] [1] [] [1] [] 1 ![64, 1, C]) :
    GatherDims ⟨3, ![64, 100, C]⟩ S9900x1 ⟨3, ![64, 9900, C]⟩ where
  offsetDims := [0, 2]
  collapsedSliceDims := [1]
  operandBatchingDims := []
  startIndicesBatchingDims := []
  startIndexMap := [1]
  indexVectorDim := 1
  sliceSizes := ![64, 1, C]
  wf := wf

/-- The row taken for edge `e` is the one its index names, when that is a node. -/
theorem take_row {α : Type} {C : Nat} (wf) (x : (⟨3, ![64, 100, C]⟩ : Shape).Idx → α) (idx : IVec S9900x1 32)
    (b : Fin 64) (e : Fin 9900) (k : Fin C) (n : Fin 100) (h : (idx (ix2 e 0)).toInt = n.val) :
    Host.gather (rowDims C wf) x idx (ix3 b e k) = x (ix3 b n k) := by
  unfold Host.gather
  congr 1
  funext a
  refine Fin.ext ?_
  show (rowDims C wf).start (ix3 b e k) idx a + (rowDims C wf).batchCoord (ix3 b e k) a + (rowDims C wf).offCoord (ix3 b e k) a = _
  rw [GatherDims.batchCoord_eq_zero _ _ _ List.not_mem_nil]
  match a with
  | ⟨0, _⟩ => show 0 + 0 + b.val = b.val; omega
  | ⟨1, _⟩ =>
    show (rowDims C wf).start (ix3 b e k) idx (1 : Fin 3) + 0 + (rowDims C wf).offCoord (ix3 b e k) (1 : Fin 3) = n.val
    rw [GatherDims.offCoord_eq_zero _ _ _ (fun h => ((GatherDims.mem_sKept _ _).mp h).1 (List.mem_singleton.mpr rfl))]
    unfold GatherDims.start
    rw [dif_pos (show (1 : Fin 3) ∈ (rowDims C wf).startIndexMap from List.mem_singleton.mpr rfl)]
    have hsi : (rowDims C wf).siIdx (ix3 b e k) ⟨List.idxOf (1 : Fin 3) (rowDims C wf).startIndexMap,
        List.idxOf_lt_length_iff.2 (List.mem_singleton.mpr rfl)⟩ = ix2 e 0 := by
      funext b; refine Fin.ext ?_
      match b with
      | ⟨0, _⟩ => rfl
      | ⟨1, _⟩ => rfl
    simp only [Nat.add_zero]
    show min (idx ((rowDims C wf).siIdx (ix3 b e k) _)).toInt.toNat 99 = n.val
    rw [hsi, h]
    have := n.isLt
    omega
  | ⟨2, _⟩ => show 0 + 0 + k.val = k.val; omega

/-- Where the row of edge `j` lands: at the node its index names. -/
theorem lands_iff (idx : IVec S9900x1 32) (b : Fin 64) (n : Fin 100) (o : Fin 64) (j : S64x9900x64.Idx) :
    scatter_S64x100x64_S9900x1_S64x9900x64_02_1_1_1.resultIdx? j idx = some (ix3 b n o)
      ↔ j 0 = b ∧ (idx (ix2 (j 1) 0)).toInt = n.val ∧ j 2 = o := by
  have s0 : scatter_S64x100x64_S9900x1_S64x9900x64_02_1_1_1.start j idx 0 = 0 := rfl
  have s2 : scatter_S64x100x64_S9900x1_S64x9900x64_02_1_1_1.start j idx 2 = 0 := rfl
  have w0 : scatter_S64x100x64_S9900x1_S64x9900x64_02_1_1_1.window j 0 = (j 0).val := rfl
  have w1 : scatter_S64x100x64_S9900x1_S64x9900x64_02_1_1_1.window j 1 = 0 := rfl
  have w2 : scatter_S64x100x64_S9900x1_S64x9900x64_02_1_1_1.window j 2 = (j 2).val := rfl
  have s1 : scatter_S64x100x64_S9900x1_S64x9900x64_02_1_1_1.start j idx 1 = (idx (ix2 (j 1) 0)).toInt := by
    unfold ScatterDims.start
    rw [dif_pos (show (1 : Fin 3) ∈ scatter_S64x100x64_S9900x1_S64x9900x64_02_1_1_1.scatterDimsToOperandDims from List.mem_singleton.mpr rfl)]
    congr 2
    funext b; refine Fin.ext ?_
    match b with
    | ⟨0, _⟩ => rfl
    | ⟨1, _⟩ => rfl
  unfold ScatterDims.resultIdx?
  constructor
  · intro h
    split_ifs at h with hc
    have h := Option.some.inj h
    have h0 := congrArg Fin.val (congrFun h 0)
    have h1 := congrArg Fin.val (congrFun h 1)
    have h2 := congrArg Fin.val (congrFun h 2)
    have c1 := hc 1
    simp only [s0, s1, s2, w0, w1, w2] at h0 h1 h2 c1
    refine ⟨Fin.ext ?_, ?_, Fin.ext ?_⟩
    · have : ((ix3 b n o : S64x100x64.Idx) 0).val = b.val := rfl
      omega
    · have : ((ix3 b n o : S64x100x64.Idx) 1).val = n.val := rfl
      omega
    · have : ((ix3 b n o : S64x100x64.Idx) 2).val = o.val := rfl
      omega
  · rintro ⟨h0, h1, h2⟩
    have hc : ∀ a, 0 ≤ scatter_S64x100x64_S9900x1_S64x9900x64_02_1_1_1.start j idx a + scatter_S64x100x64_S9900x1_S64x9900x64_02_1_1_1.window j a
        ∧ scatter_S64x100x64_S9900x1_S64x9900x64_02_1_1_1.start j idx a + scatter_S64x100x64_S9900x1_S64x9900x64_02_1_1_1.window j a < S64x100x64.size a := by
      intro a
      match a with
      | ⟨0, _⟩ => have := b.isLt; have e : (j 0).val = b.val := congrArg Fin.val h0; show 0 ≤ _ + _ ∧ _ + _ < ((64 : ℕ) : ℤ); erw [s0, w0]; omega
      | ⟨1, _⟩ => have := n.isLt; show 0 ≤ _ + _ ∧ _ + _ < ((100 : ℕ) : ℤ); erw [s1, w1, h1]; omega
      | ⟨2, _⟩ => have := o.isLt; have e : (j 2).val = o.val := congrArg Fin.val h2; show 0 ≤ _ + _ ∧ _ + _ < ((64 : ℕ) : ℤ); erw [s2, w2]; omega
    rw [dif_pos hc]
    have t0 : (scatter_S64x100x64_S9900x1_S64x9900x64_02_1_1_1.start j idx 0 + scatter_S64x100x64_S9900x1_S64x9900x64_02_1_1_1.window j 0).toNat = b.val := by
      have e : (j 0).val = b.val := congrArg Fin.val h0
      rw [s0, w0]; omega
    have t1 : (scatter_S64x100x64_S9900x1_S64x9900x64_02_1_1_1.start j idx 1 + scatter_S64x100x64_S9900x1_S64x9900x64_02_1_1_1.window j 1).toNat = n.val := by
      rw [s1, w1, h1]; omega
    have t2 : (scatter_S64x100x64_S9900x1_S64x9900x64_02_1_1_1.start j idx 2 + scatter_S64x100x64_S9900x1_S64x9900x64_02_1_1_1.window j 2).toNat = o.val := by
      have e : (j 2).val = o.val := congrArg Fin.val h2
      rw [s2, w2]; omega
    refine congrArg some (funext fun a => Fin.ext ?_)
    match a with
    | ⟨0, _⟩ => exact t0
    | ⟨1, _⟩ => exact t1
    | ⟨2, _⟩ => exact t2

/-- Rows added into the nodes their indices name: each node's total. -/
theorem add_rows (x : Vec Ideal S64x100x64 .f32) (idx : IVec S9900x1 32) (upd : Vec Ideal S64x9900x64 .f32)
    (b : Fin 64) (n : Fin 100) (o : Fin 64) :
    Host.scatterAdd (F := Ideal) (φ := .f32) scatter_S64x100x64_S9900x1_S64x9900x64_02_1_1_1 x idx upd (ix3 b n o)
      = x (ix3 b n o) + ∑ e ∈ Finset.univ.filter (fun e : Fin 9900 => (idx (ix2 e 0)).toInt = n.val), upd (ix3 b e o) := by
  show x (ix3 b n o) + ∑ j ∈ Finset.univ.filter (fun j => scatter_S64x100x64_S9900x1_S64x9900x64_02_1_1_1.resultIdx? j idx = some (ix3 b n o)), upd j = _
  congr 1
  refine Finset.sum_nbij' (fun j => j 1) (fun e => ix3 b e o) ?_ ?_ ?_ ?_ ?_
  · intro j hj
    exact Finset.mem_filter.mpr ⟨Finset.mem_univ _, ((lands_iff idx b n o j).mp (Finset.mem_filter.mp hj).2).2.1⟩
  · intro e he
    exact Finset.mem_filter.mpr ⟨Finset.mem_univ _, (lands_iff idx b n o _).mpr ⟨rfl, (Finset.mem_filter.mp he).2, rfl⟩⟩
  · intro j hj
    obtain ⟨h0, -, h2⟩ := (lands_iff idx b n o j).mp (Finset.mem_filter.mp hj).2
    subst h0 h2
    funext a
    match a with
    | ⟨0, _⟩ => rfl
    | ⟨1, _⟩ => rfl
    | ⟨2, _⟩ => rfl
  · intro e _; rfl
  · intro j hj
    obtain ⟨h0, -, h2⟩ := (lands_iff idx b n o j).mp (Finset.mem_filter.mp hj).2
    subst h0 h2
    refine congrArg upd (funext fun a => ?_)
    match a with
    | ⟨0, _⟩ => rfl
    | ⟨1, _⟩ => rfl
    | ⟨2, _⟩ => rfl

end Cert.ReferenceIdeal.Own
-- ==== Proof.RefIndex.lean ====
module
public import proofs.«01_k».proof.Proof.Gen.ReferenceIdeal.Read
public import proofs.«01_k».proof.Proof.Layer
public import Idealize.ShloMosaic.Lib.Pointwise
public import Idealize.ShloMosaic.Lib.Pipeline.ValueKit

/-! The two ends of every edge, as the reference counts them. -/

@[expose] public section
set_option maxRecDepth 16384
noncomputable section
namespace Cert.ReferenceIdeal.Own
open Idealize.ShloMosaic Idealize.SL.Sem Cert.ReferenceIdeal Cert.ReferenceIdeal.Gen Cert.ReferenceIdeal.Read

/-- An edge's sender. -/
theorem send_word (i : Fin 100) (k : Fin 99) : (val_main_v62 (F := Ideal) (ix2 (Spec.edgeIx i k) 0)).toInt = i.val := by
  unfold val_main_v62 val_main_v61 val_main_v60 val_main_v59 val_main_v58 val_main_v57 val_main_v6 val_main_v0 val_main_c_5 val_main_c_6 Spec.edgeIx
  pointwise
  clear k
  revert i
  decide +kernel

/-- An edge's receiver. -/
theorem recv_word (i : Fin 100) (k : Fin 99) : (val_main_v69 (F := Ideal) (ix2 (Spec.edgeIx i k) 0)).toInt = if k.val < i.val then k.val else k.val + 1 := by
  unfold val_main_v69 val_main_v68 val_main_v67 val_main_v66 val_main_v65 val_main_v64 val_main_v7 val_main_v5 val_main_v4 val_main_v3 val_main_v2 val_main_v1 val_main_v0 val_main_c_7 val_main_c_8 val_main_c Spec.edgeIx
  pointwise
  revert i k
  decide +kernel
/-- The other index columns of the senders and of the receivers are these two. -/
theorem send84 : val_main_v84 (F := Ideal) = val_main_v62 := rfl
theorem send92 : val_main_v92 (F := Ideal) = val_main_v62 := rfl
theorem send130 : val_main_v130 (F := Ideal) = val_main_v62 := rfl
theorem recv77 : val_main_v77 (F := Ideal) = val_main_v69 := rfl
theorem recv99 : val_main_v99 (F := Ideal) = val_main_v69 := rfl
theorem recv123 : val_main_v123 (F := Ideal) = val_main_v69 := rfl
theorem recv164 : val_main_v164 (F := Ideal) = val_main_v69 := rfl

end Cert.ReferenceIdeal.Own
-- ==== Proof.RefEdge.lean ====
module
public import proofs.«01_k».proof.Proof.RefNode
public import proofs.«01_k».proof.Proof.RefGather
public import proofs.«01_k».proof.Proof.RefIndex

/-! An edge's attributes, as the reference gathers them from the edge's two ends. -/

@[expose] public section
set_option maxRecDepth 16384
noncomputable section
namespace Cert.ReferenceIdeal.Own
open Idealize.ShloMosaic Idealize.SL.Sem Cert.ReferenceIdeal Cert.ReferenceIdeal.Gen Cert.ReferenceIdeal.Read

theorem recv_rc (i : Fin 100) (k : Fin 99) : (val_main_v69 (F := Ideal) (ix2 (Spec.edgeIx i k) 0)).toInt = (Spec.other i k).val := by
  rw [recv_word]; rfl

variable (x0 : Vec Ideal S64x100x4 .f32) (x3 : Vec Ideal S64x100x2 .f32) (x4 : Vec Ideal S64x100x16 .f32)
  (b : Fin 64) (i : Fin 100) (k : Fin 99)

theorem v63_at (c : Fin 6) : val_main_v63 (F := Ideal) x0 x3 (ix3 b (Spec.edgeIx i k) c) = val_main_v31 (F := Ideal) x0 x3 (ix3 b i c) :=
  take_row _ _ _ b (Spec.edgeIx i k) c i (send_word i k)

theorem v70_at (c : Fin 6) : val_main_v70 (F := Ideal) x0 x3 (ix3 b (Spec.edgeIx i k) c) = val_main_v31 (F := Ideal) x0 x3 (ix3 b (Spec.other i k) c) :=
  take_row _ _ _ b (Spec.edgeIx i k) c (Spec.other i k) (recv_rc i k)

theorem v78_at (c : Fin 9) : val_main_v78 (F := Ideal) x0 x3 (ix3 b (Spec.edgeIx i k) c) = val_main_v55 (F := Ideal) x0 x3 (ix3 b (Spec.other i k) c) :=
  take_row _ _ _ b (Spec.edgeIx i k) c (Spec.other i k) (by rw [recv77, recv_rc])

theorem v85_at (c : Fin 9) : val_main_v85 (F := Ideal) x0 x3 (ix3 b (Spec.edgeIx i k) c) = val_main_v55 (F := Ideal) x0 x3 (ix3 b i c) :=
  take_row _ _ _ b (Spec.edgeIx i k) c i (by rw [send84, send_word])

theorem v93_at (c : Fin 2) : val_main_v93 (F := Ideal) x0 x3 (ix3 b (Spec.edgeIx i k) c) = val_main_v9 (F := Ideal) x0 x3 (ix3 b i c) :=
  take_row _ _ _ b (Spec.edgeIx i k) c i (by rw [send92, send_word])

theorem v100_at (c : Fin 2) : val_main_v100 (F := Ideal) x0 x3 (ix3 b (Spec.edgeIx i k) c) = val_main_v9 (F := Ideal) x0 x3 (ix3 b (Spec.other i k) c) :=
  take_row _ _ _ b (Spec.edgeIx i k) c (Spec.other i k) (by rw [recv99, recv_rc])

theorem v124_at (c : Fin 16) : val_main_v124 (F := Ideal) x4 (ix3 b (Spec.edgeIx i k) c) = x4 (ix3 b (Spec.other i k) c) :=
  take_row _ _ _ b (Spec.edgeIx i k) c (Spec.other i k) (by rw [recv123, recv_rc])

theorem v131_at (c : Fin 16) : val_main_v131 (F := Ideal) x4 (ix3 b (Spec.edgeIx i k) c) = x4 (ix3 b i c) :=
  take_row _ _ _ b (Spec.edgeIx i k) c i (by rw [send130, send_word])

theorem v101_at (c : Fin 2) : val_main_v101 (F := Ideal) x0 x3 (ix3 b (Spec.edgeIx i k) c)
    = st x0 b i ⟨c.val, by omega⟩ - st x0 b (Spec.other i k) ⟨c.val, by omega⟩ := by
  show val_main_v93 (F := Ideal) x0 x3 (ix3 b (Spec.edgeIx i k) c) - val_main_v100 (F := Ideal) x0 x3 (ix3 b (Spec.edgeIx i k) c) = _
  rw [v93_at, v100_at]
  unfold val_main_v9 val_main_v8 st
  fin_cases c <;> (pointwise; try rfl)

/-- The displacement along the edge. -/
def gap (c : Fin 2) : EReal := st x0 b i ⟨c.val, by omega⟩ - st x0 b (Spec.other i k) ⟨c.val, by omega⟩

theorem v112_at : val_main_v112 (F := Ideal) x0 x3 (ix2 b (Spec.edgeIx i k)) = Ideal.atan2 (gap x0 b i k 1) (gap x0 b i k 0) := by
  unfold val_main_v112 val_main_v111 val_main_v110 val_main_v109 val_main_v108
  pointwise
  rw [v101_at, v101_at]
  rfl

theorem v107_at : val_main_v107 (F := Ideal) x0 x3 (ix3 b (Spec.edgeIx i k) 0) = Spec.norm2 (gap x0 b i k 0) (gap x0 b i k 1) := by
  unfold val_main_v107 val_main_v106 val_main_v105 val_main_v104 val_main_v103 val_main_v102 val_main_cst_17 val_main_cst_18
  pointwise
  rw [Fin.sum_univ_two, v101_at, v101_at]
  rfl

variable (h0 : ∀ i, ∃ r : ℝ, x0 i = (r : EReal))
include h0

/-- A finite state has finite displacements. -/
theorem gap_real (c : Fin 2) : ∃ r : ℝ, gap x0 b i k c = (r : EReal) := by
  obtain ⟨x, hx⟩ := h0 (ix3 b i ⟨c.val, by omega⟩)
  obtain ⟨y, hy⟩ := h0 (ix3 b (Spec.other i k) ⟨c.val, by omega⟩)
  exact ⟨x - y, by unfold gap st; rw [hx, hy, EReal.coe_sub]⟩

/-- Distance, cosine and sine of the displacement along the edge. -/
theorem v117_at (c : Fin 3) : val_main_v117 (F := Ideal) x0 x3 (ix3 b (Spec.edgeIx i k) c)
    = ![Spec.norm2 (gap x0 b i k 0) (gap x0 b i k 1), Spec.dirc (gap x0 b i k 0) (gap x0 b i k 1), Spec.dirs (gap x0 b i k 0) (gap x0 b i k 1)] c := by
  obtain ⟨x, hx⟩ := gap_real x0 b i k h0 0
  obtain ⟨y, hy⟩ := gap_real x0 b i k h0 1
  unfold val_main_v117 val_main_v116 val_main_v114
  fin_cases c
  · pointwise
    rw [v107_at]
  · pointwise
    show Ideal.cos (val_main_v112 (F := Ideal) x0 x3 (ix2 b (Spec.edgeIx i k))) = Spec.dirc (gap x0 b i k 0) (gap x0 b i k 1)
    rw [v112_at, hx, hy, Spec.cos_atan2]
  · pointwise
    show Ideal.sin (val_main_v112 (F := Ideal) x0 x3 (ix2 b (Spec.edgeIx i k))) = Spec.dirs (gap x0 b i k 0) (gap x0 b i k 1)
    rw [v112_at, hx, hy, Spec.sin_atan2]

/-- The attributes of the edge: both ends' extra features, the difference of local coordinates, both ends' charges. -/
def attr (c : Fin 56) : EReal :=
  if h : c.val < 9 then Spec.extra (st x0 b (Spec.other i k)) (fl x3 b (Spec.other i k)) ⟨c.val, h⟩
  else if h : c.val < 18 then Spec.extra (st x0 b i) (fl x3 b i) ⟨c.val - 9, by omega⟩
  else if h : c.val < 24 then Spec.loc (st x0 b i) (fl x3 b i) ⟨c.val - 18, by omega⟩
    - Spec.loc (st x0 b (Spec.other i k)) (fl x3 b (Spec.other i k)) ⟨c.val - 18, by omega⟩
  else if h : c.val < 40 then x4 (ix3 b (Spec.other i k) (⟨c.val - 24, by omega⟩ : Fin 16))
  else x4 (ix3 b i (⟨c.val - 40, by omega⟩ : Fin 16))

set_option maxHeartbeats 8000000 in
theorem v132_at (c : Fin 56) : val_main_v132 (F := Ideal) x0 x3 x4 (ix3 b (Spec.edgeIx i k) c) = attr x0 x3 x4 b i k c := by
  unfold val_main_v132 val_main_v86 val_main_v71
  fin_cases c <;>
    (pointwise
     first
     | rw [v78_at, v55_at x0 x3 h0]
     | rw [v85_at, v55_at x0 x3 h0]
     | rw [v63_at, v70_at, v31_at x0 x3 h0, v31_at x0 x3 h0]
     | rw [v124_at]
     | rw [v131_at]
     rfl)

end Cert.ReferenceIdeal.Own
-- ==== Proof.RefMsg.lean ====
module
public import proofs.«01_k».proof.Proof.RefEdge

/-! An edge's message, as the reference forms it from the edge's attributes. -/

@[expose] public section
set_option maxRecDepth 16384
noncomputable section
namespace Cert.ReferenceIdeal.Own
open Idealize.ShloMosaic Idealize.SL.Sem Cert.ReferenceIdeal Cert.ReferenceIdeal.Gen Cert.ReferenceIdeal.Read

variable (x0 : Vec Ideal S64x100x4 .f32) (x2 : Vec Ideal S64x9900x4 .f32) (x3 : Vec Ideal S64x100x2 .f32) (x4 : Vec Ideal S64x100x16 .f32)
  (x7 : Vec Ideal S56x64 .f32) (x8 : Vec Ideal S64 .f32) (x9 : Vec Ideal S3x64 .f32) (x10 : Vec Ideal S64 .f32) (x11 : Vec Ideal S64x64 .f32)
  (x12 : Vec Ideal S64 .f32) (x13 : Vec Ideal S64x192 .f32) (x14 : Vec Ideal S192 .f32)
  (h0 : ∀ i, ∃ r : ℝ, x0 i = (r : EReal))
  (b : Fin 64) (i : Fin 100) (k : Fin 99)
include h0

theorem v137_at (q : Fin 64) : val_main_v137 (F := Ideal) x0 x3 x4 x7 x8 (ix3 b (Spec.edgeIx i k) q)
    = max (∑ c, attr x0 x3 x4 b i k c * x7 (ix2 c q) + x8 (ix1 q)) 0 := by
  have el : ∀ c, lidx_main_v133 (ix3 b (Spec.edgeIx i k) q) c = ix3 b (Spec.edgeIx i k) c := fun c => funext fun d => by
    match d with
    | ⟨0, _⟩ => rfl
    | ⟨1, _⟩ => rfl
    | ⟨2, _⟩ => rfl
  have er : ∀ c, ridx_main_v133 (ix3 b (Spec.edgeIx i k) q) c = ix2 c q := fun c => funext fun d => by
    match d with
    | ⟨0, _⟩ => rfl
    | ⟨1, _⟩ => rfl
  unfold val_main_v137 val_main_v136 val_main_v135 val_main_v134 val_main_call1_v0 val_main_call1_cst
  pointwise
  simp only [val_main_v133_apply, el, er, v132_at x0 x3 x4 _ _ _ h0]

theorem v142_at (q : Fin 64) : val_main_v142 (F := Ideal) x0 x3 x9 x10 (ix3 b (Spec.edgeIx i k) q)
    = Spec.polar (Spec.norm2 (gap x0 b i k 0) (gap x0 b i k 1)) (Spec.dirc (gap x0 b i k 0) (gap x0 b i k 1)) (Spec.dirs (gap x0 b i k 0) (gap x0 b i k 1))
      (fun l m => x9 (ix2 l m)) (fun m => x10 (ix1 m)) q := by
  have el : ∀ c, lidx_main_v138 (ix3 b (Spec.edgeIx i k) q) c = ix3 b (Spec.edgeIx i k) c := fun c => funext fun d => by
    match d with
    | ⟨0, _⟩ => rfl
    | ⟨1, _⟩ => rfl
    | ⟨2, _⟩ => rfl
  have er : ∀ c, ridx_main_v138 (ix3 b (Spec.edgeIx i k) q) c = ix2 c q := fun c => funext fun d => by
    match d with
    | ⟨0, _⟩ => rfl
    | ⟨1, _⟩ => rfl
  unfold val_main_v142 val_main_v141 val_main_v140 val_main_v139 val_main_call2_v0 val_main_call2_cst
  pointwise
  simp only [val_main_v138_apply, el, er, v117_at x0 x3 _ _ _ h0, Fin.sum_univ_three]
  rfl

theorem v146_at (q : Fin 64) : val_main_v146 (F := Ideal) x0 x3 x9 x10 x11 x12 (ix3 b (Spec.edgeIx i k) q)
    = Spec.posnet (Spec.norm2 (gap x0 b i k 0) (gap x0 b i k 1)) (Spec.dirc (gap x0 b i k 0) (gap x0 b i k 1)) (Spec.dirs (gap x0 b i k 0) (gap x0 b i k 1))
      (fun l m => x9 (ix2 l m)) (fun m => x10 (ix1 m)) (fun l m => x11 (ix2 l m)) (fun m => x12 (ix1 m)) q := by
  have el : ∀ c, lidx_main_v143 (ix3 b (Spec.edgeIx i k) q) c = ix3 b (Spec.edgeIx i k) c := fun c => funext fun d => by
    match d with
    | ⟨0, _⟩ => rfl
    | ⟨1, _⟩ => rfl
    | ⟨2, _⟩ => rfl
  have er : ∀ c, ridx_main_v143 (ix3 b (Spec.edgeIx i k) q) c = ix2 c q := fun c => funext fun d => by
    match d with
    | ⟨0, _⟩ => rfl
    | ⟨1, _⟩ => rfl
  unfold val_main_v146 val_main_v145 val_main_v144
  pointwise
  simp only [val_main_v143_apply, el, er, v142_at x0 x3 x9 x10 h0]
  rfl

theorem v151_at (o : Fin 192) : val_main_v151 (F := Ideal) x0 x3 x4 x7 x8 x9 x10 x11 x12 x13 x14 (ix3 b (Spec.edgeIx i k) o)
    = ∑ q, max (∑ c, attr x0 x3 x4 b i k c * x7 (ix2 c q) + x8 (ix1 q)) 0
        * Spec.posnet (Spec.norm2 (gap x0 b i k 0) (gap x0 b i k 1)) (Spec.dirc (gap x0 b i k 0) (gap x0 b i k 1)) (Spec.dirs (gap x0 b i k 0) (gap x0 b i k 1))
          (fun l m => x9 (ix2 l m)) (fun m => x10 (ix1 m)) (fun l m => x11 (ix2 l m)) (fun m => x12 (ix1 m)) q * x13 (ix2 q o) + x14 (ix1 o) := by
  have el : ∀ c, lidx_main_v148 (ix3 b (Spec.edgeIx i k) o) c = ix3 b (Spec.edgeIx i k) c := fun c => funext fun d => by
    match d with
    | ⟨0, _⟩ => rfl
    | ⟨1, _⟩ => rfl
    | ⟨2, _⟩ => rfl
  have er : ∀ c, ridx_main_v148 (ix3 b (Spec.edgeIx i k) o) c = ix2 c o := fun c => funext fun d => by
    match d with
    | ⟨0, _⟩ => rfl
    | ⟨1, _⟩ => rfl
  unfold val_main_v151 val_main_v150 val_main_v149
  pointwise
  have hm : ∀ q, val_main_v147 (F := Ideal) x0 x3 x4 x7 x8 x9 x10 x11 x12 (ix3 b (Spec.edgeIx i k) q)
      = val_main_v137 (F := Ideal) x0 x3 x4 x7 x8 (ix3 b (Spec.edgeIx i k) q) * val_main_v146 (F := Ideal) x0 x3 x9 x10 x11 x12 (ix3 b (Spec.edgeIx i k) q) := fun _ => val_main_v147_apply _ _ _ _ _ _ _ _ _ _
  simp only [val_main_v148_apply, el, er, hm, v137_at x0 x3 x4 x7 x8 h0, v146_at x0 x3 x9 x10 x11 x12 h0]

omit h0 in
theorem v152_at (o : Fin 64) (ch : Fin 3) : val_main_v152 (F := Ideal) x0 x3 x4 x7 x8 x9 x10 x11 x12 x13 x14 (ix4 b (Spec.edgeIx i k) o ch)
    = val_main_v151 (F := Ideal) x0 x3 x4 x7 x8 x9 x10 x11 x12 x13 x14 (ix3 b (Spec.edgeIx i k) (Spec.src ch o)) := by
  unfold val_main_v152 Spec.src
  generalize val_main_v151 (F := Ideal) x0 x3 x4 x7 x8 x9 x10 x11 x12 x13 x14 = y
  generalize Spec.edgeIx i k = e
  pointwise

omit h0 in
theorem v155_at (o : Fin 64) (ch : Fin 3) : val_main_v155 (F := Ideal) x2 (ix4 b (Spec.edgeIx i k) o ch)
    = x2 (ix3 b (Spec.edgeIx i k) (⟨ch.val + 1, by omega⟩ : Fin 4)) := by
  unfold val_main_v155 val_main_v154 val_main_v153
  generalize Spec.edgeIx i k = e
  pointwise
  exact congrArg (fun z => x2 (ix3 b e z)) (Fin.ext (Nat.add_comm _ _))

omit h0 in
theorem v157_sum (o : Fin 64) : val_main_v157 (F := Ideal) x0 x2 x3 x4 x7 x8 x9 x10 x11 x12 x13 x14 (ix3 b (Spec.edgeIx i k) o)
    = val_main_v156 (F := Ideal) x0 x2 x3 x4 x7 x8 x9 x10 x11 x12 x13 x14 (ix4 b (Spec.edgeIx i k) o 0)
     + val_main_v156 (F := Ideal) x0 x2 x3 x4 x7 x8 x9 x10 x11 x12 x13 x14 (ix4 b (Spec.edgeIx i k) o 1)
     + val_main_v156 (F := Ideal) x0 x2 x3 x4 x7 x8 x9 x10 x11 x12 x13 x14 (ix4 b (Spec.edgeIx i k) o 2) := by
  unfold val_main_v157 val_main_cst_23
  generalize val_main_v156 (F := Ideal) x0 x2 x3 x4 x7 x8 x9 x10 x11 x12 x13 x14 = y
  generalize Spec.edgeIx i k = e
  pointwise
  rw [Fin.sum_univ_three]

/-- The edge's contribution to its receiver. -/
theorem v157_at (o : Fin 64) : val_main_v157 (F := Ideal) x0 x2 x3 x4 x7 x8 x9 x10 x11 x12 x13 x14 (ix3 b (Spec.edgeIx i k) o)
    = Spec.edge (fun q => max (∑ c, attr x0 x3 x4 b i k c * x7 (ix2 c q) + x8 (ix1 q)) 0)
        (Spec.posnet (Spec.norm2 (gap x0 b i k 0) (gap x0 b i k 1)) (Spec.dirc (gap x0 b i k 0) (gap x0 b i k 1)) (Spec.dirs (gap x0 b i k 0) (gap x0 b i k 1))
          (fun l m => x9 (ix2 l m)) (fun m => x10 (ix1 m)) (fun l m => x11 (ix2 l m)) (fun m => x12 (ix1 m)))
        (fun q ch o => x13 (ix2 q (Spec.src ch o))) (fun ch o => x14 (ix1 (Spec.src ch o)))
        (fun ch => x2 (ix3 b (Spec.edgeIx i k) (⟨ch.val + 1, by omega⟩ : Fin 4))) o := by
  have hm : ∀ ch, val_main_v156 (F := Ideal) x0 x2 x3 x4 x7 x8 x9 x10 x11 x12 x13 x14 (ix4 b (Spec.edgeIx i k) o ch)
      = val_main_v152 (F := Ideal) x0 x3 x4 x7 x8 x9 x10 x11 x12 x13 x14 (ix4 b (Spec.edgeIx i k) o ch)
        * val_main_v155 (F := Ideal) x2 (ix4 b (Spec.edgeIx i k) o ch) := fun _ => val_main_v156_apply _ _ _ _ _ _ _ _ _ _ _ _ _
  rw [v157_sum, hm, hm, hm, v152_at, v152_at, v152_at, v155_at, v155_at, v155_at,
    v151_at x0 x3 x4 x7 x8 x9 x10 x11 x12 x13 x14 h0, v151_at x0 x3 x4 x7 x8 x9 x10 x11 x12 x13 x14 h0,
    v151_at x0 x3 x4 x7 x8 x9 x10 x11 x12 x13 x14 h0]
  unfold Spec.edge
  rfl

end Cert.ReferenceIdeal.Own
-- ==== Proof.Split.lean ====
module
public import proofs.«01_k».proof.Proof.Layer

/-! The first layer of the edge network, split between the edge's two ends. -/

@[expose] public section
noncomputable section
namespace Cert.Spec
open Idealize.ShloMosaic

theorem sum_56 (F : Fin 56 → EReal) : ∑ c, F c = (∑ j : Fin 9, F ⟨j.val, by omega⟩) + (∑ j : Fin 9, F ⟨9 + j.val, by omega⟩)
    + (∑ j : Fin 6, F ⟨18 + j.val, by omega⟩) + (∑ j : Fin 16, F ⟨24 + j.val, by omega⟩) + (∑ j : Fin 16, F ⟨40 + j.val, by omega⟩) := by
  refine (Fin.sum_univ_add (a := 40) (b := 16) F).trans (congrArg₂ (· + ·) ?_ rfl)
  refine (Fin.sum_univ_add (a := 24) (b := 16) _).trans (congrArg₂ (· + ·) ?_ rfl)
  refine (Fin.sum_univ_add (a := 18) (b := 6) _).trans (congrArg₂ (· + ·) ?_ rfl)
  exact Fin.sum_univ_add (a := 9) (b := 9) _

theorem sum_31 (F : Fin 31 → EReal) : ∑ c, F c = (∑ j : Fin 6, F ⟨j.val, by omega⟩) + (∑ j : Fin 9, F ⟨6 + j.val, by omega⟩)
    + (∑ j : Fin 16, F ⟨15 + j.val, by omega⟩) := by
  refine (Fin.sum_univ_add (a := 15) (b := 16) F).trans (congrArg₂ (· + ·) ?_ rfl)
  exact Fin.sum_univ_add (a := 6) (b := 9) _

/-- The attributes of an edge from a node `(p, f, ce)` to a node `(p', f', ce')`. -/
def attrs (p p' : Fin 4 → EReal) (f f' : Fin 2 → EReal) (ce ce' : Fin 16 → EReal) (c : Fin 56) : EReal :=
  if h : c.val < 9 then extra p' f' ⟨c.val, h⟩
  else if h : c.val < 18 then extra p f ⟨c.val - 9, by omega⟩
  else if h : c.val < 24 then loc p f ⟨c.val - 18, by omega⟩ - loc p' f' ⟨c.val - 18, by omega⟩
  else if h : c.val < 40 then ce' ⟨c.val - 24, by omega⟩
  else ce ⟨c.val - 40, by omega⟩

theorem coe_split (a b w : ℝ) : ((a : EReal) - b) * w = a * w + b * -(w : EReal) := by
  rw [← EReal.coe_sub, ← EReal.coe_neg, ← EReal.coe_mul, ← EReal.coe_mul, ← EReal.coe_mul, ← EReal.coe_add]
  congr 1
  ring

/-- A finite node has finite local coordinates. -/
theorem loc_real (p : Fin 4 → EReal) (f : Fin 2 → EReal) (hp : ∀ k, ∃ r : ℝ, p k = r) (hf : ∀ k, ∃ r : ℝ, f k = r) (j : Fin 6) :
    ∃ r : ℝ, loc p f j = r := by
  obtain ⟨a, ha⟩ := hp 0
  obtain ⟨b, hb⟩ := hp 1
  obtain ⟨u, hu⟩ := hp 2
  obtain ⟨v, hv⟩ := hp 3
  obtain ⟨s, hs⟩ := hf 0
  obtain ⟨t, ht⟩ := hf 1
  obtain ⟨c, hc⟩ := dirc_real u v
  obtain ⟨d, hd⟩ := dirs_real u v
  have h1 : ∀ x y : ℝ, ∃ r : ℝ, (c : EReal) * x + (d : EReal) * y = r := fun x y => ⟨c * x + d * y, by push_cast; rfl⟩
  have h2 : ∀ x y : ℝ, ∃ r : ℝ, -(d : EReal) * x + (c : EReal) * y = r := fun x y => ⟨-d * x + c * y, by push_cast; rfl⟩
  unfold loc
  rw [ha, hb, hu, hv, hs, ht, hc, hd]
  fin_cases j
  · exact h1 a b
  · exact h2 a b
  · exact h1 u v
  · exact h2 u v
  · exact h1 s t
  · exact h2 s t

/-- One weight column against an edge's attributes: the sender's part plus the receiver's. The local coordinates enter
as a difference, which is taken apart under a finite weight. -/
theorem attrs_split (p p' : Fin 4 → EReal) (f f' : Fin 2 → EReal) (ce ce' : Fin 16 → EReal) (W : Fin 56 → Fin 64 → EReal) (z : EReal) (q : Fin 64)
    (hl : ∀ j, ∃ r : ℝ, loc p f j = r) (hl' : ∀ j, ∃ r : ℝ, loc p' f' j = r) (hW : ∀ j : Fin 6, ∃ r : ℝ, W ⟨18 + j.val, by omega⟩ q = r) :
    ∑ c, attrs p p' f f' ce ce' c * W c q + z = ∑ k, feat p f ce k * wsend W k q + (∑ k, feat p' f' ce' k * wrecv W k q + z) := by
  have a1 : ∀ j : Fin 9, attrs p p' f f' ce ce' ⟨j.val, by omega⟩ = extra p' f' j := fun j => dif_pos j.isLt
  have a2 : ∀ j : Fin 9, attrs p p' f f' ce ce' ⟨9 + j.val, by omega⟩ = extra p f j := fun j => by
    have := j.isLt
    unfold attrs
    rw [dif_neg (by simp only; omega), dif_pos (by simp only; omega)]
    congr 1; exact Fin.ext (Nat.add_sub_cancel_left ..)
  have a3 : ∀ j : Fin 6, attrs p p' f f' ce ce' ⟨18 + j.val, by omega⟩ = loc p f j - loc p' f' j := fun j => by
    have := j.isLt
    unfold attrs
    rw [dif_neg (by simp only; omega), dif_neg (by simp only; omega), dif_pos (by simp only; omega)]
    have e : (⟨18 + j.val - 18, by omega⟩ : Fin 6) = j := Fin.ext (Nat.add_sub_cancel_left ..)
    simp only [e]
  have a4 : ∀ j : Fin 16, attrs p p' f f' ce ce' ⟨24 + j.val, by omega⟩ = ce' j := fun j => by
    have := j.isLt
    unfold attrs
    rw [dif_neg (by simp only; omega), dif_neg (by simp only; omega), dif_neg (by simp only; omega), dif_pos (by simp only; omega)]
    congr 1; exact Fin.ext (Nat.add_sub_cancel_left ..)
  have a5 : ∀ j : Fin 16, attrs p p' f f' ce ce' ⟨40 + j.val, by omega⟩ = ce j := fun j => by
    have := j.isLt
    unfold attrs
    rw [dif_neg (by simp only; omega), dif_neg (by simp only; omega), dif_neg (by simp only; omega), dif_neg (by simp only; omega)]
    congr 1; exact Fin.ext (Nat.add_sub_cancel_left ..)
  have f1 : ∀ (p : Fin 4 → EReal) f ce (j : Fin 6), feat p f ce ⟨j.val, by omega⟩ = loc p f j := fun p f ce j => dif_pos j.isLt
  have f2 : ∀ (p : Fin 4 → EReal) f ce (j : Fin 9), feat p f ce ⟨6 + j.val, by omega⟩ = extra p f j := fun p f ce j => by
    have := j.isLt
    unfold feat
    rw [dif_neg (by simp only; omega), dif_pos (by simp only; omega)]
    congr 1; exact Fin.ext (Nat.add_sub_cancel_left ..)
  have f3 : ∀ (p : Fin 4 → EReal) f ce (j : Fin 16), feat p f ce ⟨15 + j.val, by omega⟩ = ce j := fun p f ce j => by
    have := j.isLt
    unfold feat
    rw [dif_neg (by simp only; omega), dif_neg (by simp only; omega)]
    congr 1; exact Fin.ext (Nat.add_sub_cancel_left ..)
  have s1 : ∀ j : Fin 6, wsend W ⟨j.val, by omega⟩ q = W ⟨18 + j.val, by omega⟩ q := fun j => by
    unfold wsend
    rw [if_pos j.isLt]
    congr 1; exact Fin.ext (congrArg (18 + ·) (Nat.mod_eq_of_lt j.isLt))
  have s2 : ∀ j : Fin 9, wsend W ⟨6 + j.val, by omega⟩ q = W ⟨9 + j.val, by omega⟩ q := fun j => by
    have := j.isLt
    unfold wsend
    rw [if_neg (by simp only; omega), dif_pos (by simp only; omega)]
    congr 1; exact Fin.ext (by simp only; omega)
  have s3 : ∀ j : Fin 16, wsend W ⟨15 + j.val, by omega⟩ q = W ⟨40 + j.val, by omega⟩ q := fun j => by
    have := j.isLt
    unfold wsend
    rw [if_neg (by simp only; omega), dif_neg (by simp only; omega)]
    congr 1; exact Fin.ext (by simp only; omega)
  have r1 : ∀ j : Fin 6, wrecv W ⟨j.val, by omega⟩ q = -W ⟨18 + j.val, by omega⟩ q := fun j => by
    unfold wrecv
    rw [if_pos j.isLt]
    congr 2; exact Fin.ext (congrArg (18 + ·) (Nat.mod_eq_of_lt j.isLt))
  have r2 : ∀ j : Fin 9, wrecv W ⟨6 + j.val, by omega⟩ q = W ⟨j.val, by omega⟩ q := fun j => by
    have := j.isLt
    unfold wrecv
    rw [if_neg (by simp only; omega), dif_pos (by simp only; omega)]
    congr 1; exact Fin.ext (by simp only; omega)
  have r3 : ∀ j : Fin 16, wrecv W ⟨15 + j.val, by omega⟩ q = W ⟨24 + j.val, by omega⟩ q := fun j => by
    have := j.isLt
    unfold wrecv
    rw [if_neg (by simp only; omega), dif_neg (by simp only; omega)]
    congr 1; exact Fin.ext (by simp only; omega)
  have hd : ∀ j : Fin 6, (loc p f j - loc p' f' j) * W ⟨18 + j.val, by omega⟩ q
      = loc p f j * W ⟨18 + j.val, by omega⟩ q + loc p' f' j * -W ⟨18 + j.val, by omega⟩ q := fun j => by
    obtain ⟨a, ha⟩ := hl j
    obtain ⟨b, hb⟩ := hl' j
    obtain ⟨w, hw⟩ := hW j
    rw [ha, hb, hw, coe_split]
  rw [sum_56, sum_31, sum_31]
  simp only [a1, a2, a3, a4, a5, f1, f2, f3, s1, s2, s3, r1, r2, r3, hd, Finset.sum_add_distrib]
  abel

end Cert.Spec
-- ==== Proof.Words.lean ====
module
public import Idealize.ShloMosaic.PureOps.Ideal.Laws

/-! The two constants whose values matter to the proof, read from their words. -/

@[expose] public section
noncomputable section
namespace Cert.Spec
open Idealize.ShloMosaic

/-- The number of other nodes, as the reference writes it. -/
theorem ofBits_99 : Ideal.ofBits .f32 0x42C60000#32 = ((99 : ℝ) : EReal) := by
  simp [Ideal.ofBits, Ideal.ieee, -EReal.coe_mul]; norm_num

/-- The bound the precondition compares with. -/
theorem ofBits_top : Ideal.ofBits .f32 0x7F800000#32 = ⊤ := by
  simp [Ideal.ofBits, Ideal.ieee]

/-- A magnitude below infinity is a real number's. -/
theorem real_of_below (x : EReal) (h : Ideal.cmp .olt (max x (-x)) (Ideal.ofBits .f32 0x7F800000#32) = 1#1) : ∃ r : ℝ, x = r := by
  have h : max x (-x) < ⊤ := by
    rw [ofBits_top] at h
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by simp [e] at h
  have h2 : x ≠ ⊥ := fun e => by simp [e] at h
  exact ⟨x.toReal, (EReal.coe_toReal h1 h2).symm⟩

end Cert.Spec
-- ==== Proof.RefValue.lean ====
module
public import proofs.«01_k».proof.Proof.RefMsg
public import proofs.«01_k».proof.Proof.Split
public import proofs.«01_k».proof.Proof.Words

/-! The reference's result, element by element. -/

@[expose] public section
set_option maxRecDepth 16384
noncomputable section
namespace Cert.ReferenceIdeal.Own
open Idealize.ShloMosaic Idealize.SL.Sem Cert.ReferenceIdeal Cert.ReferenceIdeal.Gen Cert.ReferenceIdeal.Read

section Tail
variable (x0 : Vec Ideal S64x100x4 .f32) (x2 : Vec Ideal S64x9900x4 .f32) (x3 : Vec Ideal S64x100x2 .f32) (x4 : Vec Ideal S64x100x16 .f32)
  (x5 : Vec Ideal S31x64 .f32) (x6 : Vec Ideal S64 .f32)
  (x7 : Vec Ideal S56x64 .f32) (x8 : Vec Ideal S64 .f32) (x9 : Vec Ideal S3x64 .f32) (x10 : Vec Ideal S64 .f32) (x11 : Vec Ideal S64x64 .f32)
  (x12 : Vec Ideal S64 .f32) (x13 : Vec Ideal S64x192 .f32) (x14 : Vec Ideal S192 .f32) (x15 : Vec Ideal S64x64 .f32) (x16 : Vec Ideal S64 .f32)
  (x17 : Vec Ideal S64x64 .f32) (x18 : Vec Ideal S64 .f32) (x19 : Vec Ideal S64x4 .f32) (x20 : Vec Ideal S4 .f32)
  (b : Fin 64) (n : Fin 100)

/-- A node's total over its incoming edges. -/
theorem v165_at (l : Fin 64) : val_main_v165 (F := Ideal) x0 x2 x3 x4 x7 x8 x9 x10 x11 x12 x13 x14 (ix3 b n l)
    = ∑ i : Fin 100, if i = n then 0 else val_main_v157 (F := Ideal) x0 x2 x3 x4 x7 x8 x9 x10 x11 x12 x13 x14 (ix3 b (Spec.edgeIx i (Spec.slot i n)) l) := by
  unfold val_main_v165
  rw [add_rows]
  have hz : val_main_v158 (F := Ideal) (ix3 b n l) = 0 := by
    unfold val_main_v158 val_main_cst_24
    pointwise
  rw [hz, zero_add]
  refine Spec.sum_into (fun e => val_main_v157 (F := Ideal) x0 x2 x3 x4 x7 x8 x9 x10 x11 x12 x13 x14 (ix3 b e l)) n _ fun i k => ?_
  rw [recv164, recv_rc]
  exact ⟨fun h => Fin.ext (by exact_mod_cast h), fun h => by rw [h]⟩

theorem v173_at (l : Fin 64) : val_main_v173 (F := Ideal) x0 x2 x3 x4 x5 x6 x7 x8 x9 x10 x11 x12 x13 x14 (ix3 b n l)
    = val_main_v165 (F := Ideal) x0 x2 x3 x4 x7 x8 x9 x10 x11 x12 x13 x14 (ix3 b n l) * ((1/99 : ℝ) : EReal)
      + (∑ k, val_main_v168 (F := Ideal) x0 x3 x4 (ix3 b n k) * x5 (ix2 k l) + x6 (ix1 l)) := by
  have el : ∀ c, lidx_main_v169 (ix3 b n l) c = ix3 b n c := fun c => funext fun d => by
    match d with
    | ⟨0, _⟩ => rfl
    | ⟨1, _⟩ => rfl
    | ⟨2, _⟩ => rfl
  have er : ∀ c, ridx_main_v169 (ix3 b n l) c = ix2 c l := fun c => funext fun d => by
    match d with
    | ⟨0, _⟩ => rfl
    | ⟨1, _⟩ => rfl
  unfold val_main_v173 val_main_v172 val_main_v171 val_main_v170 val_main_v167 val_main_v166 val_main_cst_27
  pointwise
  simp only [val_main_v169_apply, el, er]
  rw [Spec.ofBits_99, Ideal.div_coe (by norm_num)]

theorem v178_at (l : Fin 64) : val_main_v178 (F := Ideal) x0 x2 x3 x4 x5 x6 x7 x8 x9 x10 x11 x12 x13 x14 x15 x16 (ix3 b n l)
    = max (∑ k, val_main_v173 (F := Ideal) x0 x2 x3 x4 x5 x6 x7 x8 x9 x10 x11 x12 x13 x14 (ix3 b n k) * x15 (ix2 k l) + x16 (ix1 l)) 0 := by
  have el : ∀ c, lidx_main_v174 (ix3 b n l) c = ix3 b n c := fun c => funext fun d => by
    match d with
    | ⟨0, _⟩ => rfl
    | ⟨1, _⟩ => rfl
    | ⟨2, _⟩ => rfl
  have er : ∀ c, ridx_main_v174 (ix3 b n l) c = ix2 c l := fun c => funext fun d => by
    match d with
    | ⟨0, _⟩ => rfl
    | ⟨1, _⟩ => rfl
  unfold val_main_v178 val_main_v177 val_main_v176 val_main_v175 val_main_call3_v0 val_main_call3_cst
  pointwise
  simp only [val_main_v174_apply, el, er]

theorem v183_at (l : Fin 64) : val_main_v183 (F := Ideal) x0 x2 x3 x4 x5 x6 x7 x8 x9 x10 x11 x12 x13 x14 x15 x16 x17 x18 (ix3 b n l)
    = max (∑ k, val_main_v178 (F := Ideal) x0 x2 x3 x4 x5 x6 x7 x8 x9 x10 x11 x12 x13 x14 x15 x16 (ix3 b n k) * x17 (ix2 k l) + x18 (ix1 l)) 0 := by
  have el : ∀ c, lidx_main_v179 (ix3 b n l) c = ix3 b n c := fun c => funext fun d => by
    match d with
    | ⟨0, _⟩ => rfl
    | ⟨1, _⟩ => rfl
    | ⟨2, _⟩ => rfl
  have er : ∀ c, ridx_main_v179 (ix3 b n l) c = ix2 c l := fun c => funext fun d => by
    match d with
    | ⟨0, _⟩ => rfl
    | ⟨1, _⟩ => rfl
  unfold val_main_v183 val_main_v182 val_main_v181 val_main_v180 val_main_call4_v0 val_main_call4_cst
  pointwise
  simp only [val_main_v179_apply, el, er]

theorem v187_at (k : Fin 4) : val_main_v187 (F := Ideal) x0 x2 x3 x4 x5 x6 x7 x8 x9 x10 x11 x12 x13 x14 x15 x16 x17 x18 x19 x20 (ix3 b n k)
    = ∑ q, val_main_v183 (F := Ideal) x0 x2 x3 x4 x5 x6 x7 x8 x9 x10 x11 x12 x13 x14 x15 x16 x17 x18 (ix3 b n q) * x19 (ix2 q k) + x20 (ix1 k) := by
  have el : ∀ c, lidx_main_v184 (ix3 b n k) c = ix3 b n c := fun c => funext fun d => by
    match d with
    | ⟨0, _⟩ => rfl
    | ⟨1, _⟩ => rfl
    | ⟨2, _⟩ => rfl
  have er : ∀ c, ridx_main_v184 (ix3 b n k) c = ix2 c k := fun c => funext fun d => by
    match d with
    | ⟨0, _⟩ => rfl
    | ⟨1, _⟩ => rfl
  unfold val_main_v187 val_main_v186 val_main_v185
  pointwise
  simp only [val_main_v184_apply, el, er]

/-- A node's prediction, through the output network. -/
theorem v187_head (k : Fin 4) : val_main_v187 (F := Ideal) x0 x2 x3 x4 x5 x6 x7 x8 x9 x10 x11 x12 x13 x14 x15 x16 x17 x18 x19 x20 (ix3 b n k)
    = Spec.head (fun l => val_main_v173 (F := Ideal) x0 x2 x3 x4 x5 x6 x7 x8 x9 x10 x11 x12 x13 x14 (ix3 b n l)) (fun k l => x15 (ix2 k l)) (fun l => x16 (ix1 l))
      (fun k l => x17 (ix2 k l)) (fun l => x18 (ix1 l)) (fun k l => x19 (ix2 k l)) (fun l => x20 (ix1 l)) k := by
  simp only [v187_at, v183_at, v178_at]
  rfl

theorem v188_at (a j : Fin 2) : val_main_v188 (F := Ideal) x0 x2 x3 x4 x5 x6 x7 x8 x9 x10 x11 x12 x13 x14 x15 x16 x17 x18 x19 x20 (ix4 b n a j)
    = val_main_v187 (F := Ideal) x0 x2 x3 x4 x5 x6 x7 x8 x9 x10 x11 x12 x13 x14 x15 x16 x17 x18 x19 x20 (ix3 b n (⟨2 * a.val + j.val, by omega⟩ : Fin 4)) := by
  unfold val_main_v188
  generalize val_main_v187 (F := Ideal) x0 x2 x3 x4 x5 x6 x7 x8 x9 x10 x11 x12 x13 x14 x15 x16 x17 x18 x19 x20 = y
  fin_cases a <;> fin_cases j <;> (pointwise; try rfl)

theorem v189_at (a j : Fin 2) : val_main_v189 (F := Ideal) x0 x2 x3 x4 x5 x6 x7 x8 x9 x10 x11 x12 x13 x14 x15 x16 x17 x18 x19 x20 (ix4 b n a j)
    = val_main_v188 (F := Ideal) x0 x2 x3 x4 x5 x6 x7 x8 x9 x10 x11 x12 x13 x14 x15 x16 x17 x18 x19 x20 (ix4 b n a 0) * val_main_v27 (F := Ideal) x0 x3 (ix4 b n j 0)
      + val_main_v188 (F := Ideal) x0 x2 x3 x4 x5 x6 x7 x8 x9 x10 x11 x12 x13 x14 x15 x16 x17 x18 x19 x20 (ix4 b n a 1) * val_main_v27 (F := Ideal) x0 x3 (ix4 b n j 1) := by
  have el : ∀ k, lidx_main_v189 (ix4 b n a j) k = ix4 b n a k := fun k => funext fun d => by
    match d with
    | ⟨0, _⟩ => rfl
    | ⟨1, _⟩ => rfl
    | ⟨2, _⟩ => rfl
    | ⟨3, _⟩ => rfl
  have er : ∀ k, ridx_main_v189 (ix4 b n a j) k = ix4 b n j k := fun k => funext fun d => by
    match d with
    | ⟨0, _⟩ => rfl
    | ⟨1, _⟩ => rfl
    | ⟨2, _⟩ => rfl
    | ⟨3, _⟩ => rfl
  rw [val_main_v189_apply, Fin.sum_univ_two, el, el, er, er]

theorem v190_at (a j : Fin 2) : val_main_v190 (F := Ideal) x0 x2 x3 x4 x5 x6 x7 x8 x9 x10 x11 x12 x13 x14 x15 x16 x17 x18 x19 x20 (ix3 b n (⟨2 * a.val + j.val, by omega⟩ : Fin 4))
    = val_main_v189 (F := Ideal) x0 x2 x3 x4 x5 x6 x7 x8 x9 x10 x11 x12 x13 x14 x15 x16 x17 x18 x19 x20 (ix4 b n a j) := by
  unfold val_main_v190
  generalize val_main_v189 (F := Ideal) x0 x2 x3 x4 x5 x6 x7 x8 x9 x10 x11 x12 x13 x14 x15 x16 x17 x18 x19 x20 = y
  fin_cases a <;> fin_cases j <;> (pointwise; try rfl)

variable (h0 : ∀ i, ∃ r : ℝ, x0 i = (r : EReal))
include h0

/-- The reference's result, in terms of the node's prediction. -/
theorem v191_at (k : Fin 4) : val_main_v191 (F := Ideal) x0 x2 x3 x4 x5 x6 x7 x8 x9 x10 x11 x12 x13 x14 x15 x16 x17 x18 x19 x20 (ix3 b n k)
    = Spec.turn (st x0 b n) (fun k => val_main_v187 (F := Ideal) x0 x2 x3 x4 x5 x6 x7 x8 x9 x10 x11 x12 x13 x14 x15 x16 x17 x18 x19 x20 (ix3 b n k)) k := by
  have h : ∀ a j : Fin 2, val_main_v191 (F := Ideal) x0 x2 x3 x4 x5 x6 x7 x8 x9 x10 x11 x12 x13 x14 x15 x16 x17 x18 x19 x20 (ix3 b n (⟨2 * a.val + j.val, by omega⟩ : Fin 4))
      = st x0 b n ⟨2 * a.val + j.val, by omega⟩ + (val_main_v187 (F := Ideal) x0 x2 x3 x4 x5 x6 x7 x8 x9 x10 x11 x12 x13 x14 x15 x16 x17 x18 x19 x20 (ix3 b n (⟨2 * a.val, by omega⟩ : Fin 4)) * val_main_v27 (F := Ideal) x0 x3 (ix4 b n j 0)
          + val_main_v187 (F := Ideal) x0 x2 x3 x4 x5 x6 x7 x8 x9 x10 x11 x12 x13 x14 x15 x16 x17 x18 x19 x20 (ix3 b n (⟨2 * a.val + 1, by omega⟩ : Fin 4)) * val_main_v27 (F := Ideal) x0 x3 (ix4 b n j 1)) := fun a j => by
    refine (val_main_v191_apply _ _ _ _ _ _ _ _ _ _ _ _ _ _ _ _ _ _ _ _ _).trans ?_
    rw [v190_at, v189_at, v188_at, v188_at]
    rfl
  have e := v27_at x0 x3 b n
  simp only [v16_at x0 x3 h0, v17_at x0 x3 h0] at e
  have t0 : ∀ c d y z : EReal, y * c + z * -d = c * y - d * z := fun c d y z => by
    rw [mul_comm y, mul_comm z, EReal.neg_mul, sub_eq_add_neg]
  have t1 : ∀ c d y z : EReal, y * d + z * c = d * y + c * z := fun c d y z => by rw [mul_comm, mul_comm z]
  fin_cases k
  · refine (h 0 0).trans ?_
    rw [e, e]
    exact congrArg (st x0 b n 0 + ·) (t0 _ _ _ _)
  · refine (h 0 1).trans ?_
    rw [e, e]
    exact congrArg (st x0 b n 1 + ·) (t1 _ _ _ _)
  · refine (h 1 0).trans ?_
    rw [e, e]
    exact congrArg (st x0 b n 2 + ·) (t0 _ _ _ _)
  · refine (h 1 1).trans ?_
    rw [e, e]
    exact congrArg (st x0 b n 3 + ·) (t1 _ _ _ _)

end Tail
end Cert.ReferenceIdeal.Own
-- ==== Proof.RefResult.lean ====
module
public import proofs.«01_k».proof.Proof.RefValue

/-! The reference computes the layer. -/

@[expose] public section
set_option maxRecDepth 16384
noncomputable section
namespace Cert.ReferenceIdeal.Own
open Idealize.ShloMosaic Idealize.SL.Sem Cert.ReferenceIdeal Cert.ReferenceIdeal.Gen Cert.ReferenceIdeal.Read

/-- An edge's attributes depend on the receiving node only through its own numbers. -/
theorem attr_eq (x0 : Vec Ideal S64x100x4 .f32) (x3 : Vec Ideal S64x100x2 .f32) (x4 : Vec Ideal S64x100x16 .f32)
    (b : Fin 64) (i : Fin 100) (k : Fin 99) (n : Fin 100) (h : Spec.other i k = n) (c : Fin 56) :
    attr x0 x3 x4 b i k c = Spec.attrs (st x0 b i) (st x0 b n) (fl x3 b i) (fl x3 b n) (fun k => x4 (ix3 b i k)) (fun k => x4 (ix3 b n k)) c := by
  subst h; rfl

theorem gap_eq (x0 : Vec Ideal S64x100x4 .f32) (b : Fin 64) (i : Fin 100) (k : Fin 99) (n : Fin 100) (h : Spec.other i k = n) :
    gap x0 b i k 0 = st x0 b i 0 - st x0 b n 0 ∧ gap x0 b i k 1 = st x0 b i 1 - st x0 b n 1 := by
  subst h; exact ⟨rfl, rfl⟩

variable (x0 : Vec Ideal S64x100x4 .f32) (x2 : Vec Ideal S64x9900x4 .f32) (x3 : Vec Ideal S64x100x2 .f32) (x4 : Vec Ideal S64x100x16 .f32)
  (x5 : Vec Ideal S31x64 .f32) (x6 : Vec Ideal S64 .f32)
  (x7 : Vec Ideal S56x64 .f32) (x8 : Vec Ideal S64 .f32) (x9 : Vec Ideal S3x64 .f32) (x10 : Vec Ideal S64 .f32) (x11 : Vec Ideal S64x64 .f32)
  (x12 : Vec Ideal S64 .f32) (x13 : Vec Ideal S64x192 .f32) (x14 : Vec Ideal S192 .f32) (x15 : Vec Ideal S64x64 .f32) (x16 : Vec Ideal S64 .f32)
  (x17 : Vec Ideal S64x64 .f32) (x18 : Vec Ideal S64 .f32) (x19 : Vec Ideal S64x4 .f32) (x20 : Vec Ideal S4 .f32)
  (h0 : ∀ i, ∃ r : ℝ, x0 i = (r : EReal)) (h3 : ∀ i, ∃ r : ℝ, x3 i = (r : EReal))
  (h7 : ∀ (c : Fin 56) (q : Fin 64), 18 ≤ c.val → c.val < 24 → ∃ r : ℝ, x7 (ix2 c q) = (r : EReal))
  (b : Fin 64) (n : Fin 100)
include h0 h3 h7

/-- The message from node `i` to node `n`, from what each of the two brings. -/
theorem message (i : Fin 100) (h : i ≠ n) (l : Fin 64) :
    val_main_v157 (F := Ideal) x0 x2 x3 x4 x7 x8 x9 x10 x11 x12 x13 x14 (ix3 b (Spec.edgeIx i (Spec.slot i n)) l)
    = Spec.pair (fun q => ∑ k, Spec.feat (st x0 b i) (fl x3 b i) (fun k => x4 (ix3 b i k)) k * Spec.wsend (fun c q => x7 (ix2 c q)) k q)
        (fun q => ∑ k, Spec.feat (st x0 b n) (fl x3 b n) (fun k => x4 (ix3 b n k)) k * Spec.wrecv (fun c q => x7 (ix2 c q)) k q + x8 (ix1 q))
        (st x0 b i 0 - st x0 b n 0) (st x0 b i 1 - st x0 b n 1)
        (fun l m => x9 (ix2 l m)) (fun m => x10 (ix1 m)) (fun l m => x11 (ix2 l m)) (fun m => x12 (ix1 m))
        (fun q ch o => x13 (ix2 q (Spec.src ch o))) (fun ch o => x14 (ix1 (Spec.src ch o)))
        (fun ch => x2 (ix3 b (Spec.edgeIx i (Spec.slot i n)) ch.succ)) l := by
  have hn := Spec.other_slot h
  obtain ⟨g0, g1⟩ := gap_eq x0 b i _ n hn
  have hl : ∀ i j, ∃ r : ℝ, Spec.loc (st x0 b i) (fl x3 b i) j = r := fun i =>
    Spec.loc_real _ _ (fun k => h0 _) (fun k => h3 _)
  have hs : ∀ q, ∑ c, attr x0 x3 x4 b i (Spec.slot i n) c * x7 (ix2 c q) + x8 (ix1 q)
      = ∑ k, Spec.feat (st x0 b i) (fl x3 b i) (fun k => x4 (ix3 b i k)) k * Spec.wsend (fun c q => x7 (ix2 c q)) k q
        + (∑ k, Spec.feat (st x0 b n) (fl x3 b n) (fun k => x4 (ix3 b n k)) k * Spec.wrecv (fun c q => x7 (ix2 c q)) k q + x8 (ix1 q)) := fun q => by
    simp only [attr_eq x0 x3 x4 b i _ n hn]
    exact Spec.attrs_split _ _ _ _ _ _ (fun c q => x7 (ix2 c q)) _ q (hl i) (hl n) (fun j => h7 _ q (Nat.le_add_right _ _) (Nat.add_lt_add_left j.isLt 18))
  rw [v157_at x0 x2 x3 x4 x7 x8 x9 x10 x11 x12 x13 x14 h0, g0, g1]
  simp only [hs]
  rfl

/-- Every element of the reference's result is the layer's. -/
theorem reference_result (k : Fin 4) : val_main_v191 (F := Ideal) x0 x2 x3 x4 x5 x6 x7 x8 x9 x10 x11 x12 x13 x14 x15 x16 x17 x18 x19 x20 (ix3 b n k)
    = Spec.result (fun n k => x0 (ix3 b n k)) (fun n k => x3 (ix3 b n k)) (fun n k => x4 (ix3 b n k))
        (fun i k ch => x2 (ix3 b (Spec.edgeIx i k) ch.succ))
        (fun k l => x5 (ix2 k l)) (fun l => x6 (ix1 l)) (fun k l => x7 (ix2 k l)) (fun l => x8 (ix1 l)) (fun k l => x9 (ix2 k l)) (fun l => x10 (ix1 l))
        (fun k l => x11 (ix2 k l)) (fun l => x12 (ix1 l)) (fun k l => x13 (ix2 k l)) (fun l => x14 (ix1 l)) (fun k l => x15 (ix2 k l)) (fun l => x16 (ix1 l))
        (fun k l => x17 (ix2 k l)) (fun l => x18 (ix1 l)) (fun k l => x19 (ix2 k l)) (fun l => x20 (ix1 l)) n k := by
  have hr : ∀ l, val_main_v173 (F := Ideal) x0 x2 x3 x4 x5 x6 x7 x8 x9 x10 x11 x12 x13 x14 (ix3 b n l) = _ := fun l =>
    (v173_at x0 x2 x3 x4 x5 x6 x7 x8 x9 x10 x11 x12 x13 x14 b n l).trans
      (congrArg₂ (· + ·)
        (congrArg (· * ((1/99 : ℝ) : EReal)) ((v165_at x0 x2 x3 x4 x7 x8 x9 x10 x11 x12 x13 x14 b n l).trans
          (Finset.sum_congr rfl fun i _ => ite_congr rfl (fun _ => rfl) fun h =>
            message x0 x2 x3 x4 x7 x8 x9 x10 x11 x12 x13 x14 h0 h3 h7 b n i h l)))
        (congrArg (· + x6 (ix1 l)) (Finset.sum_congr rfl fun k _ => congrArg (· * x5 (ix2 k l)) (v168_at x0 x3 h0 x4 b n k))))
  rw [v191_at x0 x2 x3 x4 x5 x6 x7 x8 x9 x10 x11 x12 x13 x14 x15 x16 x17 x18 x19 x20 b n h0]
  simp only [v187_head, hr]
  rfl

end Cert.ReferenceIdeal.Own
-- ==== Proof.Finite.lean ====
module
public import proofs.«01_k».proof.Proof.Words
public import proofs.«01_k».proof.Proof.Gen.Pre_finite
public import Idealize.ShloMosaic.Lib.ValueIdx

/-! What the precondition says, number by number. -/

@[expose] public section
noncomputable section
namespace Cert.Pre_finite
open Idealize.ShloMosaic Cert.Pre_finite.Gen

variable (x0 : FVec Ideal S64x100x4 .f32) (x1 : IVec S_ 32) (x2 : FVec Ideal S64x9900x4 .f32) (x3 : FVec Ideal S64x100x2 .f32)
  (x4 : FVec Ideal S64x100x16 .f32) (x5 : FVec Ideal S31x64 .f32) (x6 : FVec Ideal S64 .f32) (x7 : FVec Ideal S56x64 .f32) (x8 : FVec Ideal S64 .f32)
  (x9 : FVec Ideal S3x64 .f32) (x10 : FVec Ideal S64 .f32) (x11 : FVec Ideal S64x64 .f32) (x12 : FVec Ideal S64 .f32) (x13 : FVec Ideal S64x192 .f32)
  (x14 : FVec Ideal S192 .f32) (x15 : FVec Ideal S64x64 .f32) (x16 : FVec Ideal S64 .f32) (x17 : FVec Ideal S64x64 .f32) (x18 : FVec Ideal S64 .f32)
  (x19 : FVec Ideal S64x4 .f32) (x20 : FVec Ideal S4 .f32)

/-- The node states are real numbers. -/
theorem states (h : (fn (F := Ideal) x0 x1 x2 x3 x4 x5 x6 x7 x8 x9 x10 x11 x12 x13 x14 x15 x16 x17 x18 x19 x20).1 = fun _ => 1#1)
    (i : S64x100x4.Idx) : ∃ r : ℝ, x0 i = (r : EReal) :=
  Spec.real_of_below _ (congrFun h i)

/-- The predicted field is made of real numbers. -/
theorem field (h : (fn (F := Ideal) x0 x1 x2 x3 x4 x5 x6 x7 x8 x9 x10 x11 x12 x13 x14 x15 x16 x17 x18 x19 x20).2.1 = fun _ => 1#1)
    (i : S64x100x2.Idx) : ∃ r : ℝ, x3 i = (r : EReal) :=
  Spec.real_of_below _ (congrFun h i)

/-- The weights that meet the difference of local coordinates are real numbers. -/
theorem weights (h : (fn (F := Ideal) x0 x1 x2 x3 x4 x5 x6 x7 x8 x9 x10 x11 x12 x13 x14 x15 x16 x17 x18 x19 x20).2.2 = fun _ => 1#1)
    (c : Fin 56) (q : Fin 64) (hc : 18 ≤ c.val) (hc' : c.val < 24) : ∃ r : ℝ, x7 (ValueIdx.ix2 c q) = (r : EReal) := by
  obtain ⟨r, hr⟩ := Spec.real_of_below _ (congrFun h (ValueIdx.ix2 (⟨c.val - 18, by omega⟩ : Fin 6) q))
  refine ⟨r, Eq.trans (congrArg x7 (funext fun d => ?_)) hr⟩
  match d with
  | ⟨0, _⟩ => exact Fin.ext (Nat.add_sub_of_le hc).symm
  | ⟨1, _⟩ => exact Fin.ext (Nat.zero_add _).symm

end Cert.Pre_finite
-- ==== Proof.Algebraic.lean ====
module
public import proofs.«01_k».proof.Defs
public import proofs.«01_k».proof.Proof.KernelValue
public import proofs.«01_k».proof.Proof.RefResult
public import proofs.«01_k».proof.Proof.Finite

/-! The kernel and the reference leave the same result. -/

@[expose] public section
set_option maxRecDepth 16384
noncomputable section
namespace Cert.Proof
open Idealize.ShloMosaic Idealize.SL.Sem

/-- Two results that agree at every node and channel are equal. -/
theorem same (w x : Vec Ideal ReferenceIdeal.S64x100x4 .f32) (h : ∀ b n k, w (ValueIdx.ix3 b n k) = x (ValueIdx.ix3 b n k)) : w = x :=
  funext fun i => by
    rw [ValueIdx.eq_ix3 i]
    exact h _ _ _

/-- On arguments the precondition admits, the kernel's result is the reference's function of them. -/
theorem result_eq (m : (ℓ : Loc KernelIdeal.nD KernelIdeal.τ KernelIdeal.sig) → Buf (Elt Ideal) ℓ) (g : Dev KernelIdeal.nD → PrngReg)
    (c : Dev KernelIdeal.nD) (h : Cert.Pre_KernelIdeal_finite (hPre_finite := Cert.Pre_finite.Gen.facts) m) :
    KernelIdeal.Own.W6 (F := Ideal) m g c (Proc.devRef .tc KernelIdeal.main_v25)
    = ReferenceIdeal.Read.val_main_v191 (F := Ideal)
        (m ((c.tc : Thread KernelIdeal.nD KernelIdeal.τ).loc KernelIdeal.main_arg0)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11)) (m ((c.tc : Thread KernelIdeal.nD KernelIdeal.τ).loc KernelIdeal.main_arg12)) (m ((c.tc : Thread KernelIdeal.nD KernelIdeal.τ).loc KernelIdeal.main_arg13)) (m ((c.tc : Thread KernelIdeal.nD KernelIdeal.τ).loc KernelIdeal.main_arg14)) (m ((c.tc : Thread KernelIdeal.nD KernelIdeal.τ).loc KernelIdeal.main_arg15)) (m ((c.tc : Thread KernelIdeal.nD KernelIdeal.τ).loc KernelIdeal.main_arg16)) (m ((c.tc : Thread KernelIdeal.nD KernelIdeal.τ).loc KernelIdeal.main_arg17)) (m ((c.tc : Thread KernelIdeal.nD KernelIdeal.τ).loc KernelIdeal.main_arg18)) (m ((c.tc : Thread KernelIdeal.nD KernelIdeal.τ).loc KernelIdeal.main_arg19)) (m ((c.tc : Thread KernelIdeal.nD KernelIdeal.τ).loc KernelIdeal.main_arg20)) :=
  same _ _ fun b n k => (KernelIdeal.Own.kernel_result m g c b n k).trans
    (ReferenceIdeal.Own.reference_result _ _ _ _ _ _ _ _ _ _ _ _ _ _ _ _ _ _ _ _
      (Pre_finite.states _ _ _ _ _ _ _ _ _ _ _ _ _ _ _ _ _ _ _ _ _ (h c).1)
      (Pre_finite.field _ _ _ _ _ _ _ _ _ _ _ _ _ _ _ _ _ _ _ _ _ (h c).2.1)
      (Pre_finite.weights _ _ _ _ _ _ _ _ _ _ _ _ _ _ _ _ _ _ _ _ _ (h c).2.2) b n k).symm

/-- The kernel and the reference, from equal arguments, leave equal results and their arguments as launched. -/
theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp he =>
  ⟨fun c => KernelIdeal.Own.W6 (F := Ideal) m g c (Proc.devRef .tc KernelIdeal.main_v25),
    (θ_run KernelIdeal.defs _ _).mono (fun _ h => h.1) (KernelIdeal.Own.run (F := Ideal) m g),
    (θ_run ReferenceIdeal.defs _ _).mono (fun r h c => by
      obtain ⟨hv, ha⟩ := h c
      refine ⟨?_, ha⟩
      refine Eq.trans ?_ (result_eq m g c hp).symm
      obtain ⟨e0, e1, e2, e3, e4, e5, e6, e7, e8, e9, e10, e11, e12, e13, e14, e15, e16, e17, e18, e19, e20⟩ := he c
      refine (hv.trans (ReferenceIdeal.Read.val_main_v191_eq (F := Ideal) (StableHlo.launchContents m' c))).trans ?_
      show ReferenceIdeal.Read.val_main_v191 (F := Ideal)
        (m' ((c.tc : Thread ReferenceIdeal.nD ReferenceIdeal.τ).loc ReferenceIdeal.main_arg0)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6)) (m' ((c.tc : Thread ReferenceIdeal.nD ReferenceIdeal.τ).loc ReferenceIdeal.main_arg7)) (m' ((c.tc : Thread ReferenceIdeal.nD ReferenceIdeal.τ).loc ReferenceIdeal.main_arg8)) (m' ((c.tc : Thread ReferenceIdeal.nD ReferenceIdeal.τ).loc ReferenceIdeal.main_arg9)) (m' ((c.tc : Thread ReferenceIdeal.nD ReferenceIdeal.τ).loc ReferenceIdeal.main_arg10)) (m' ((c.tc : Thread ReferenceIdeal.nD ReferenceIdeal.τ).loc ReferenceIdeal.main_arg11)) (m' ((c.tc : Thread ReferenceIdeal.nD ReferenceIdeal.τ).loc ReferenceIdeal.main_arg12)) (m' ((c.tc : Thread ReferenceIdeal.nD ReferenceIdeal.τ).loc ReferenceIdeal.main_arg13)) (m' ((c.tc : Thread ReferenceIdeal.nD ReferenceIdeal.τ).loc ReferenceIdeal.main_arg14)) (m' ((c.tc : Thread ReferenceIdeal.nD ReferenceIdeal.τ).loc ReferenceIdeal.main_arg15)) (m' ((c.tc : Thread ReferenceIdeal.nD ReferenceIdeal.τ).loc ReferenceIdeal.main_arg16)) (m' ((c.tc : Thread ReferenceIdeal.nD ReferenceIdeal.τ).loc ReferenceIdeal.main_arg17)) (m' ((c.tc : Thread ReferenceIdeal.nD ReferenceIdeal.τ).loc ReferenceIdeal.main_arg18)) (m' ((c.tc : Thread ReferenceIdeal.nD ReferenceIdeal.τ).loc ReferenceIdeal.main_arg19)) (m' ((c.tc : Thread ReferenceIdeal.nD ReferenceIdeal.τ).loc ReferenceIdeal.main_arg20)) = _
      rw [e0, e2, e3, e4, e5, e6, e7, e8, e9, e10, e11, e12, e13, e14, e15, e16, e17, e18, e19, e20])
      (ReferenceIdeal.Value.run (F := Ideal) m' g')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  kernel_frame, kernelIdeal_frame, fun m g _ => kernelIdeal_frame m g trivial, reference_frame, fun m g _ => reference_frame m g trivial,
  constant_named, agree⟩

end Cert.Proof

end
